-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .f32 0x3E0293EE#32 (((Real.log 2)⁻¹ * (Real.sqrt 128)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x2048x2048 : Shape := ⟨3, ![2, 2048, 2048]⟩
abbrev S2048x2048 : Shape := ⟨2, ![2048, 2048]⟩
abbrev S_ : Shape := ⟨0, ![]⟩
abbrev S1x2048x2048 : Shape := ⟨3, ![1, 2048, 2048]⟩

class Facts : Prop where
  bcast_S_S2x2048x2048 : S_.BroadcastsInDim S2x2048x2048 (![] : Fin 0 → Fin S2x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S2x2048x2048_0_1_2 : S1x2048x2048.BroadcastsInDim S2x2048x2048 (![0, 1, 2] : Fin 3 → Fin S2x2048x2048.rank)

variable [Facts]

def fn {F : FTy → Type} [FloatOps F] (main_arg0 : FVec F S2x2048x2048 .f32) (main_arg1 : FVec F S2048x2048 .f32) (main_arg2 : FVec F S2048x2048 .f32) (main_arg3 : FVec F S2048x2048 .f32) (main_arg4 : FVec F S2048x2048 .f32) : IVec S2x2048x2048 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : IVec S1x2048x2048 1 := broadcastInDim S1x2048x2048 ![1, 2] bcast_S2048x2048_S1x2048x2048_1_2 main_v5
  let main_v7 : IVec S2x2048x2048 1 := broadcastInDim S2x2048x2048 ![0, 1, 2] bcast_S1x2048x2048_S2x2048x2048_0_1_2 main_v6
  let main_v8 : IVec S2x2048x2048 1 := andi main_v2 main_v7
  let main_v9 : FVec F S2048x2048 .f32 := Host.absf main_arg2
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_v12 : IVec S1x2048x2048 1 := broadcastInDim S1x2048x2048 ![1, 2] bcast_S2048x2048_S1x2048x2048_1_2 main_v11
  let main_v13 : IVec S2x2048x2048 1 := broadcastInDim S2x2048x2048 ![0, 1, 2] bcast_S1x2048x2048_S2x2048x2048_0_1_2 main_v12
  let main_v14 : IVec S2x2048x2048 1 := andi main_v8 main_v13
  main_v14
-- ==== Kernel.lean ====
abbrev S2x2048x2048 : Shape := ⟨3, ![2, 2048, 2048]⟩
abbrev S2048x2048 : Shape := ⟨2, ![2048, 2048]⟩
abbrev S4096x2048 : Shape := ⟨2, ![4096, 2048]⟩
abbrev S2048x256 : Shape := ⟨2, ![2048, 256]⟩
abbrev S1x2048x128 : Shape := ⟨3, ![1, 2048, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S2048x512 : Shape := ⟨2, ![2048, 512]⟩

abbrev nBuf : Space → Nat
  | .hbm => 17
  | .vmem => 28
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S2x2048x2048, .bf16⟩
  | .hbm, ⟨11, _⟩ => ⟨S2x2048x2048, .bf16⟩
  | .hbm, ⟨12, _⟩ => ⟨S2x2048x2048, .bf16⟩
  | .hbm, ⟨13, _⟩ => ⟨S2x2048x2048, .bf16⟩
  | .hbm, ⟨14, _⟩ => ⟨S4096x2048, .bf16⟩
  | .hbm, ⟨15, _⟩ => ⟨S4096x2048, .f32⟩
  | .hbm, ⟨16, _⟩ => ⟨S2x2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S2048x2048, .bf16⟩
  | .local _ .vmem, ⟨23, _⟩ => ⟨S2048x2048, .bf16⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "mask" => some ⊥
  | "qscale" => some (((Real.log 2)⁻¹ * (Real.sqrt 128)⁻¹ : ℝ) : EReal)
  | _ => none
-- ==== ReferenceIdeal.lean ====
abbrev S2x2048x2048 : Shape := ⟨3, ![2, 2048, 2048]⟩
abbrev S2048x2048 : Shape := ⟨2, ![2048, 2048]⟩
abbrev S2x2048x16x128 : Shape := ⟨4, ![2, 2048, 16, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2x2048x2048, .f32⟩
  | .hbm, ⟨6, _⟩ => ⟨S2x2048x16x128, .f32⟩
  | .hbm, ⟨7, _⟩ => ⟨S2x2048x2048, .f32⟩
  | .hbm, ⟨8, _⟩ => ⟨S2x2048x16x128, .f32⟩
  | .hbm, ⟨9, _⟩ => ⟨S2x2048x2048, .f32⟩
  | .hbm, ⟨10, _⟩ => ⟨S2x2048x16x128, .f32⟩
  | .hbm, ⟨11, _⟩ => ⟨S2x16x2048x2048, .f32⟩
  | .hbm, ⟨12, _⟩ => ⟨S_, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .i1⟩
  | .hbm, ⟨17, _⟩ => ⟨S2048x2048, .i1⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S2x16x2048x2048, .i1⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x128x2048, .f32⟩
  | .hbm, ⟨47, _⟩ => ⟨S2x2048x16x128, .f32⟩
  | .hbm, ⟨48, _⟩ => ⟨S2x2048x2048, .f32⟩
  | .hbm, ⟨49, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v11 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.Frames.lean ====
/- The three frames and the equation between the kernel and its ideal form, all from the generated run theorems. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

/-- The reference declares no semaphore, so every valuation of its counters is the zero one. -/
theorem reference_counters (f : GSem Cert.ReferenceIdeal.nD Cert.ReferenceIdeal.τ Cert.ReferenceIdeal.sig → ℤ) : f = fun _ => 0 :=
  funext fun g => by
    rcases g with ⟨_, s⟩
    rcases s with s | s <;> exact s.elim0

/-- The reference runs, leaves its arguments as they were and every counter at zero. -/
theorem reference_frame : Cert.quiescent_ReferenceIdeal := fun m g _ =>
  θ_run_mono (Cert.ReferenceIdeal.Value.run m g) fun r h => ⟨fun c => (h c).2, reference_counters _⟩

/-- The kernel as printed runs, leaves its arguments as they were and every counter at zero. -/
theorem kernel_frame : Cert.quiescent_Kernel := fun m g _ => Cert.Kernel.Gen.frame m g

/-- The ideal form of the kernel runs, leaves its arguments as they were and every counter at zero. -/
theorem ideal_frame : Cert.quiescent_KernelIdeal := fun m g _ => Cert.KernelIdeal.Gen.frame m g

/-- The ideal form differs from the kernel in the two named constants alone. -/
theorem preserves : Cert.preserves_Kernel_KernelIdeal :=
  ⟨IdealRules.named_const.statement Cert.KernelIdeal.κ "qscale" .f32 0x3E0293EE#32 _ rfl,
   IdealRules.named_const.statement Cert.KernelIdeal.κ "mask" .f32 0xF149F2CA#32 _ rfl⟩

end Cert.Proof

end
-- ==== Proof.KernelRun.lean ====
/- The run of the ideal kernel: every array of the program ends at the last boundary's contents. -/
module

public import proofs.«01_k».proof.Proof.Gen.KernelIdeal.Frame

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory the program ends with its result at the last boundary's contents and its arguments as they
    were. -/
theorem run : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Values

end
-- ==== Proof.Steps.lean ====
/- The attention kernel's body as steps: the scores of a block, the causal mask, the first block's sums, the update by a
   later block, the division at the end; and the output block as four runs of these steps. -/
module

public import proofs.«01_k».proof.Proof.Gen.KernelIdeal.Frame

@[expose] public section

set_option maxRecDepth 16384

noncomputable section

namespace Cert.KernelIdeal.Values

open Idealize.ShloMosaic Idealize.SL.Sem
open Cert.KernelIdeal.Gen

variable {F : FTy → Type} [FloatOps F] [Named F]

/-- The scores of 512 queries against a block of 256 keys. -/
def scores (q : FVec F S512x128 .bf16) (k : Vec F S1x256x128 .bf16) : FVec F S512x256 .f32 :=
  matmul dot_S512x128_S256x128_S512x256_1_1_0_0_n_n none q
    (shapeCast S256x128 k shapeCasts_S1x256x128_S256x128 : FVec F S256x128 .bf16) (constant S512x256 .f32 0x00000000#32)

/-- The scores with those of later columns masked: row `i` is query `a + i`, column `j` is key `b + j`. -/
def masked (a b : BitVec 32) (s : FVec F S512x256 .f32) : FVec F S512x256 .f32 :=
  select (cmpi .sle (addi (iota .tc S512x256 32 [1] iota_S512x256_d1_w32) (broadcast S512x256 b))
      (addi (iota .tc S512x256 32 [0] iota_S512x256_d0_w32) (broadcast S512x256 a)))
    s (broadcast S512x256 (Named.named κ "mask" 0xF149F2CA#32))

/-- The largest score of each row. -/
def rowMax (s : FVec F S512x256 .f32) : FVec F S512x1 .f32 :=
  shapeCast S512x1 (multiReduction .maximumf [1] S512 s 0xFF800000#32 reduces_S512x256_S512 (.inl rfl) rfl : FVec F S512 .f32)
    shapeCasts_S512_S512x1

/-- The weights of a block relative to a column of maxima. -/
def weights (m : FVec F S512x1 .f32) (s : FVec F S512x256 .f32) : FVec F S512x256 .f32 :=
  exp2 (subf s (broadcastTo S512x256 m broadcasts_S512x1_S512x256))

/-- The sum of each row of a block of weights. -/
def rowSum (p : FVec F S512x256 .f32) : FVec F S512x1 .f32 :=
  shapeCast S512x1 (multiReduction .add [1] S512 p 0x00000000#32 reduces_S512x256_S512 (.inl rfl) rfl : FVec F S512 .f32)
    shapeCasts_S512_S512x1

/-- A block of weights times the block of values. -/
def weighed (p : FVec F S512x256 .f32) (v : Vec F S1x256x128 .bf16) : FVec F S512x128 .f32 :=
  matmul dot_S512x256_S256x128_S512x128_1_0_0_1_n_n none (truncf .bf16 p bitsLt_bf16_f32)
    (shapeCast S256x128 v shapeCasts_S1x256x128_S256x128 : FVec F S256x128 .bf16) (constant S512x128 .f32 0x00000000#32)

/-- What the kernel carries from block to block: the largest scores, the sums of weights, the weighted values. -/
structure State (F : FTy → Type) where
  m : FVec F S512x1 .f32
  l : FVec F S512x1 .f32
  o : FVec F S512x128 .f32

/-- After the first block. -/
def begun (s : FVec F S512x256 .f32) (v : Vec F S1x256x128 .bf16) : State F where
  m := rowMax s
  l := rowSum (weights (rowMax s) s)
  o := weighed (weights (rowMax s) s) v

/-- The maxima after one more block. -/
def State.top (st : State F) (s : FVec F S512x256 .f32) : FVec F S512x1 .f32 := maximumf st.m (rowMax s)

/-- The factors that carry the sums over to the new maxima. -/
def State.carry (st : State F) (s : FVec F S512x256 .f32) : FVec F S512x1 .f32 := exp2 (subf st.m (st.top s))

/-- After one more block. -/
def State.next (st : State F) (s : FVec F S512x256 .f32) (v : Vec F S1x256x128 .bf16) : State F where
  m := st.top s
  l := addf (mulf st.l (st.carry s)) (rowSum (weights (st.top s) s))
  o := addf (mulf st.o (broadcastTo S512x128 (st.carry s) broadcasts_S512x1_S512x128)) (weighed (weights (st.top s) s) v)

/-- The block of results: the weighted values over the sums of weights. -/
def State.done (st : State F) : FVec F S1x512x128 .bf16 :=
  shapeCast S1x512x128
    (truncf .bf16 (divf st.o (broadcastTo S512x128 st.l broadcasts_S512x1_S512x128)) bitsLt_bf16_f32 : FVec F S512x128 .bf16)
    shapeCasts_S512x128_S1x512x128

/-- The 512 queries that a tile reads. -/
abbrev queries (x : Vec F S1x512x128 .bf16) : FVec F S512x128 .bf16 := shapeCast S512x128 x shapeCasts_S1x512x128_S512x128

variable (x0 x1 x2 : Vec F S1x2048x128 .bf16)

/-- The first tile, queries 0 to 511: two blocks, both masked. -/
def tile0 : State F :=
  let q := queries (View.ld x0 r1_0)
  (begun (masked 0#32 0#32 (scores q (View.ld x1 r1_1))) (View.ld x2 r1_1)).next
    (masked 0#32 256#32 (scores q (View.ld x1 r1_2))) (View.ld x2 r1_2)

/-- The second tile, queries 512 to 1023: two blocks plain, two masked. -/
def tile1 : State F :=
  let q := queries (View.ld x0 r1_3)
  (((begun (scores q (View.ld x1 r1_1)) (View.ld x2 r1_1)).next
    (scores q (View.ld x1 r1_2)) (View.ld x2 r1_2)).next
    (masked 512#32 512#32 (scores q (View.ld x1 r1_4))) (View.ld x2 r1_4)).next
    (masked 512#32 768#32 (scores q (View.ld x1 r1_5))) (View.ld x2 r1_5)

/-- The third tile, queries 1024 to 1535: four blocks plain, two masked. -/
def tile2 : State F :=
  let q := queries (View.ld x0 r1_6)
  (((((begun (scores q (View.ld x1 r1_1)) (View.ld x2 r1_1)).next
    (scores q (View.ld x1 r1_2)) (View.ld x2 r1_2)).next
    (scores q (View.ld x1 r1_4)) (View.ld x2 r1_4)).next
    (scores q (View.ld x1 r1_5)) (View.ld x2 r1_5)).next
    (masked 1024#32 1024#32 (scores q (View.ld x1 r1_7))) (View.ld x2 r1_7)).next
    (masked 1024#32 1280#32 (scores q (View.ld x1 r1_8))) (View.ld x2 r1_8)

/-- The fourth tile, queries 1536 to 2047: six blocks plain, two masked. -/
def tile3 : State F :=
  let q := queries (View.ld x0 r1_9)
  (((((((begun (scores q (View.ld x1 r1_1)) (View.ld x2 r1_1)).next
    (scores q (View.ld x1 r1_2)) (View.ld x2 r1_2)).next
    (scores q (View.ld x1 r1_4)) (View.ld x2 r1_4)).next
    (scores q (View.ld x1 r1_5)) (View.ld x2 r1_5)).next
    (scores q (View.ld x1 r1_7)) (View.ld x2 r1_7)).next
    (scores q (View.ld x1 r1_8)) (View.ld x2 r1_8)).next
    (masked 1536#32 1536#32 (scores q (View.ld x1 r1_10))) (View.ld x2 r1_10)).next
    (masked 1536#32 1792#32 (scores q (View.ld x1 r1_11))) (View.ld x2 r1_11)

set_option maxRecDepth 200000 in
/-- The output block of the attention kernel is the four tiles' results, one under the other. -/
theorem out_eq_tiles : out1_3 x0 x1 x2 = View.canon
    [⟨r1_9, (tile3 x0 x1 x2).done⟩, ⟨r1_6, (tile2 x0 x1 x2).done⟩, ⟨r1_3, (tile1 x0 x1 x2).done⟩, ⟨r1_0, (tile0 x0 x1 x2).done⟩] := rfl

end Cert.KernelIdeal.Values

end
-- ==== Proof.StepReads.lean ====
/- The attention steps read at an index, over the extended reals. -/
module

public import proofs.«01_k».proof.Proof.Steps
public import Idealize.ShloMosaic.Lib.Pointwise

@[expose] public section

set_option maxRecDepth 16384

noncomputable section

namespace Cert.KernelIdeal.Values

open Idealize.ShloMosaic Idealize.SL.Sem
open Cert.KernelIdeal.Gen

/-- The pattern of minus infinity is the least extended real. -/
theorem ofBits_least : Ideal.ofBits .f32 0xFF800000#32 = ⊥ := by
  simp [Ideal.ofBits, Ideal.ieee]

/-- A maximum folded from the least element is the supremum. -/
theorem fold_max_eq_sup {ι : Type} (t : Finset ι) (f : ι → EReal) : Finset.fold max ⊥ f t = t.sup f := rfl

/-- A score is the product of a query row and a key row. -/
theorem scores_apply (q : FVec Ideal S512x128 .bf16) (k : Vec Ideal S1x256x128 .bf16) (i : Fin 512) (j : Fin 256) :
    scores q k (ix2 i j) = ∑ d : Fin 128, q (ix2 i d) * k (ix3 (0 : Fin 1) j d) := by
  pointwise [scores]

/-- The mask's constant is `⊥`. -/
theorem mask_value : (Named.named κ "mask" 0xF149F2CA#32 : Ideal .f32) = (⊥ : EReal) :=
  IdealRules.named_const.ideal_named_scalar _ _ _ _ rfl

/-- A masked block keeps the scores of columns up to the row's own and has `⊥` at later ones. -/
theorem masked_apply (A B : ℕ) (hA : A ≤ 2048) (hB : B ≤ 2048) (s : FVec Ideal S512x256 .f32) (i : Fin 512) (j : Fin 256) :
    masked (BitVec.ofNat 32 A) (BitVec.ofNat 32 B) s (ix2 i j) = if B + j.val ≤ A + i.val then s (ix2 i j) else (⊥ : EReal) := by
  pointwise [masked]
  rw [mask_value]
  have hi := i.isLt
  have hj := j.isLt
  have ea : IntOp.addi (BitVec.ofNat 32 i.val) (BitVec.ofNat 32 A) = BitVec.ofNat 32 (A + i.val) := by
    rw [add_comm A]; exact (BitVec.ofNat_add ..).symm
  have eb : IntOp.addi (BitVec.ofNat 32 j.val) (BitVec.ofNat 32 B) = BitVec.ofNat 32 (B + j.val) := by
    rw [add_comm B]; exact (BitVec.ofNat_add ..).symm
  rw [ea, eb]
  have hsle : (BitVec.ofNat 32 (B + j.val)).sle (BitVec.ofNat 32 (A + i.val)) = decide (B + j.val ≤ A + i.val) := by
    rw [BitVec.sle_eq_decide, BitVec.toInt_eq_toNat_of_lt, BitVec.toInt_eq_toNat_of_lt, BitVec.toNat_ofNat, BitVec.toNat_ofNat,
      Nat.mod_eq_of_lt (by omega), Nat.mod_eq_of_lt (by omega)]
    · exact decide_eq_decide.mpr (by norm_cast)
    · rw [BitVec.toNat_ofNat, Nat.mod_eq_of_lt] <;> omega
    · rw [BitVec.toNat_ofNat, Nat.mod_eq_of_lt] <;> omega
  unfold IntOp.cmpi Scalar.select
  simp only [hsle]
  by_cases h : B + j.val ≤ A + i.val <;> simp [h]

/-- The largest of a row's scores. -/
theorem rowMax_apply (s : FVec Ideal S512x256 .f32) (i : Fin 512) :
    rowMax s (ix2 i (0 : Fin 1)) = Finset.univ.sup fun j : Fin 256 => s (ix2 i j) := by
  pointwise [rowMax]
  rw [ofBits_least]
  exact fold_max_eq_sup _ _

/-- The sum of a row's weights. -/
theorem rowSum_apply (p : FVec Ideal S512x256 .f32) (i : Fin 512) :
    rowSum p (ix2 i (0 : Fin 1)) = ∑ j : Fin 256, p (ix2 i j) := by
  pointwise [rowSum]

/-- A weight is two to the power of a score less its row's maximum. -/
theorem weights_apply (m : FVec Ideal S512x1 .f32) (s : FVec Ideal S512x256 .f32) (i : Fin 512) (j : Fin 256) :
    weights m s (ix2 i j) = Ideal.exp2 (s (ix2 i j) - m (ix2 i (0 : Fin 1))) := by
  pointwise [weights]
  rfl

/-- The weights of a row times the values of a column, summed over the block. -/
theorem weighed_apply (p : FVec Ideal S512x256 .f32) (v : Vec Ideal S1x256x128 .bf16) (i : Fin 512) (d : Fin 128) :
    weighed p v (ix2 i d) = ∑ j : Fin 256, p (ix2 i j) * v (ix3 (0 : Fin 1) j d) := by
  pointwise [weighed]

/-- A result is a weighted value over its row's sum of weights. -/
theorem done_apply (st : State Ideal) (i : Fin 512) (d : Fin 128) :
    st.done (ix3 (0 : Fin 1) i d) = Ideal.div (st.o (ix2 i d)) (st.l (ix2 i (0 : Fin 1))) := by
  pointwise [State.done]

/-- The maximum after one more block. -/
theorem top_apply (st : State Ideal) (s : FVec Ideal S512x256 .f32) (i : Fin 512) :
    st.top s (ix2 i (0 : Fin 1)) = max (st.m (ix2 i (0 : Fin 1))) (rowMax s (ix2 i (0 : Fin 1))) := by
  pointwise [State.top]

/-- The factor that carries a row's sums to the new maximum. -/
theorem carry_apply (st : State Ideal) (s : FVec Ideal S512x256 .f32) (i : Fin 512) :
    st.carry s (ix2 i (0 : Fin 1)) = Ideal.exp2 (st.m (ix2 i (0 : Fin 1)) - st.top s (ix2 i (0 : Fin 1))) := by
  pointwise [State.carry]
  rfl

/-- The sum of weights after one more block. -/
theorem next_l_apply (st : State Ideal) (s : FVec Ideal S512x256 .f32) (v : Vec Ideal S1x256x128 .bf16) (i : Fin 512) :
    (st.next s v).l (ix2 i (0 : Fin 1)) = st.l (ix2 i (0 : Fin 1)) * st.carry s (ix2 i (0 : Fin 1))
      + rowSum (weights (st.top s) s) (ix2 i (0 : Fin 1)) := by
  pointwise [State.next]

/-- The weighted values after one more block. -/
theorem next_o_apply (st : State Ideal) (s : FVec Ideal S512x256 .f32) (v : Vec Ideal S1x256x128 .bf16) (i : Fin 512) (d : Fin 128) :
    (st.next s v).o (ix2 i d) = st.o (ix2 i d) * st.carry s (ix2 i (0 : Fin 1))
      + weighed (weights (st.top s) s) v (ix2 i d) := by
  pointwise [State.next]

/-- A block of 256 rows of a head's array, loaded from row `o`. -/
theorem ld_rows_apply (x : Vec Ideal S1x2048x128 .bf16) (o : ℕ) (h) (j : Fin 256) (d : Fin 128) (hj : o + j.val < 2048) :
    View.ld x (Rect.unit (s := S1x2048x128) ![0, o, 0] S1x256x128.size h) (ix3 (0 : Fin 1) j d)
      = x (ix3 (0 : Fin 1) ⟨o + j.val, hj⟩ d) := by
  pointwise

/-- The 512 queries of a tile, loaded from row `o`. -/
theorem queries_apply (x : Vec Ideal S1x2048x128 .bf16) (o : ℕ) (h) (i : Fin 512) (d : Fin 128) (hi : o + i.val < 2048) :
    queries (View.ld x (Rect.unit (s := S1x2048x128) ![0, o, 0] S1x512x128.size h)) (ix2 i d)
      = x (ix3 (0 : Fin 1) ⟨o + i.val, hi⟩ d) := by
  pointwise [queries]

end Cert.KernelIdeal.Values

end
-- ==== Proof.Softmax.lean ====
/- One row of attention over the extended reals: the weights taken block by block with a running maximum, in powers of
   two, and the softmax of the whole row, in powers of e. -/
module

public import Idealize.ShloMosaic.PureOps.Ideal

@[expose] public section

noncomputable section

namespace Cert.Rows

open Idealize.ShloMosaic

/-- The largest of a row's first `n` scores. -/
def top (s : ℕ → EReal) (n : ℕ) : EReal := (Finset.range n).sup s

/-- The sum of the first `n` weights, each a power of two relative to the largest score. -/
def mass (s : ℕ → EReal) (n : ℕ) : EReal := ∑ c ∈ Finset.range n, Ideal.exp2 (s c - top s n)

/-- The first `n` weights times the values they weigh, summed. -/
def blend (s v : ℕ → EReal) (n : ℕ) : EReal := ∑ c ∈ Finset.range n, Ideal.exp2 (s c - top s n) * v c

/-- A row of scores: none is `⊤` (a masked one is `⊥`) and the first is a real number. -/
structure IsRow (s : ℕ → EReal) : Prop where
  ne_top : ∀ c, s c ≠ ⊤
  first : s 0 ≠ ⊥

/-- A sum times a real number that is not negative is the sum of the products, whatever the terms are. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (by exact_mod_cast hr) (EReal.coe_ne_top r)]

/-- The largest of at least one score of a row is a real number. -/
theorem top_real {s : ℕ → EReal} (hs : IsRow s) {n : ℕ} (hn : 0 < n) : ∃ M : ℝ, top s n = (M : EReal) := by
  have h1 : top s n ≠ ⊤ := by
    refine ne_of_lt ((Finset.sup_lt_iff bot_lt_top).2 fun c _ => lt_top_iff_ne_top.2 (hs.ne_top c))
  have h2 : top s n ≠ ⊥ := fun h => hs.first (le_bot_iff.1 (h ▸ Finset.le_sup (f := s) (Finset.mem_range.2 hn)))
  exact ⟨(top s n).toReal, (EReal.coe_toReal h1 h2).symm⟩

/-- Moving a weight from one real maximum to another multiplies it by a power of two. -/
theorem weight_move {a : EReal} (ha : a ≠ ⊤) (M M' : ℝ) :
    Ideal.exp2 (a - (M : EReal)) * Ideal.exp2 ((M : EReal) - (M' : EReal)) = Ideal.exp2 (a - (M' : EReal)) := by
  induction a using EReal.rec with
  | bot => simp [EReal.bot_sub]
  | top => exact absurd rfl ha
  | coe x =>
    rw [← EReal.coe_sub, ← EReal.coe_sub, ← EReal.coe_sub, Ideal.exp2_coe, Ideal.exp2_coe, Ideal.exp2_coe,
      ← EReal.coe_mul, Real.rpow_eq_pow, Real.rpow_eq_pow, Real.rpow_eq_pow, ← Real.rpow_add (by norm_num)]
    congr 2; ring

/-- The largest of `n + k` scores, from the largest of the first `n` and the block after them. -/
theorem top_add (s : ℕ → EReal) (n k : ℕ) :
    top s (n + k) = max (top s n) ((Finset.range k).sup fun j => s (n + j)) := by
  unfold top
  rw [Finset.range_add_eq_union, Finset.sup_union, Finset.sup_map]
  rfl

/-- The power of two that carries the sums over to a later maximum is a real number that is not negative. -/
theorem carry_real {s : ℕ → EReal} (hs : IsRow s) {n k : ℕ} (hn : 0 < n) :
    ∃ r : ℝ, 0 ≤ r ∧ Ideal.exp2 (top s n - top s (n + k)) = (r : EReal) := by
  obtain ⟨M, hM⟩ := top_real hs hn
  obtain ⟨M', hM'⟩ := top_real hs (Nat.add_pos_left hn k)
  rw [hM, hM', ← EReal.coe_sub, Ideal.exp2_coe]
  exact ⟨_, by rw [Real.rpow_eq_pow]; positivity, rfl⟩

/-- Each of the first weights carried over to the later maximum. -/
theorem weight_carry {s : ℕ → EReal} (hs : IsRow s) {n k : ℕ} (hn : 0 < n) (c : ℕ) :
    Ideal.exp2 (s c - top s n) * Ideal.exp2 (top s n - top s (n + k)) = Ideal.exp2 (s c - top s (n + k)) := by
  obtain ⟨M, hM⟩ := top_real hs hn
  obtain ⟨M', hM'⟩ := top_real hs (Nat.add_pos_left hn k)
  rw [hM, hM']
  exact weight_move (hs.ne_top c) M M'

/-- The sum of `n + k` weights, from the first `n` carried over and the block after them. -/
theorem mass_add {s : ℕ → EReal} (hs : IsRow s) {n : ℕ} (hn : 0 < n) (k : ℕ) :
    mass s (n + k) = mass s n * Ideal.exp2 (top s n - top s (n + k))
      + ∑ j ∈ Finset.range k, Ideal.exp2 (s (n + j) - top s (n + k)) := by
  obtain ⟨r, hr, e⟩ := carry_real hs (k := k) hn
  unfold mass
  rw [Finset.sum_range_add, e, sum_mul_real _ _ r hr, ← e]
  congr 1
  exact Finset.sum_congr rfl fun c _ => (weight_carry hs hn c).symm

/-- The weighted values of `n + k` columns, from the first `n` carried over and the block after them. -/
theorem blend_add {s : ℕ → EReal} (hs : IsRow s) (v : ℕ → EReal) {n : ℕ} (hn : 0 < n) (k : ℕ) :
    blend s v (n + k) = blend s v n * Ideal.exp2 (top s n - top s (n + k))
      + ∑ j ∈ Finset.range k, Ideal.exp2 (s (n + j) - top s (n + k)) * v (n + j) := by
  obtain ⟨r, hr, e⟩ := carry_real hs (k := k) hn
  unfold blend
  rw [Finset.sum_range_add, e, sum_mul_real _ _ r hr, ← e]
  congr 1
  refine Finset.sum_congr rfl fun c _ => ?_
  rw [← weight_carry hs hn c (k := k), mul_assoc, mul_comm (Ideal.exp2 (top s n - top s (n + k))) (v c), ← mul_assoc]

/-- The factor between the two scales of scores: `1 / ln 2`. -/
abbrev perLn2 : ℝ := (Real.log 2)⁻¹

theorem perLn2_pos : 0 < perLn2 := inv_pos.2 (Real.log_pos (by norm_num))

/-- The largest score scales with the scores. -/
theorem top_scale (t : ℕ → EReal) (n : ℕ) : top (fun c => t c * (perLn2 : EReal)) n = top t n * (perLn2 : EReal) := by
  have hm : Monotone fun a : EReal => a * (perLn2 : EReal) := fun a b h =>
    mul_le_mul_of_nonneg_right h (by exact_mod_cast perLn2_pos.le)
  exact (Finset.comp_sup_eq_sup_comp_of_is_total _ hm (EReal.bot_mul_coe_of_pos perLn2_pos)).symm

/-- Scores that are `⊥` do not count for the largest. -/
theorem top_extend {t : ℕ → EReal} {n N : ℕ} (hnN : n ≤ N) (h : ∀ c, n ≤ c → t c = ⊥) : top t N = top t n := by
  obtain ⟨k, rfl⟩ := Nat.exists_eq_add_of_le hnN
  rw [top_add, max_eq_left]
  exact Finset.sup_le fun j _ => by rw [h _ (Nat.le_add_right n j)]; exact bot_le

/-- A power of two at the scaled difference is the power of e at the difference. -/
theorem weight_eq {a : EReal} (ha : a ≠ ⊤) (M : ℝ) :
    Ideal.exp2 (a * (perLn2 : EReal) - (M : EReal) * (perLn2 : EReal)) = Ideal.exp (a - (M : EReal)) := by
  induction a using EReal.rec with
  | bot => rw [EReal.bot_mul_coe_of_pos perLn2_pos, ← EReal.coe_mul, EReal.bot_sub, EReal.bot_sub]; rfl
  | top => exact absurd rfl ha
  | coe x =>
    rw [← EReal.coe_mul, ← EReal.coe_mul, ← EReal.coe_sub, ← EReal.coe_sub, Ideal.exp2_coe, Ideal.exp_coe,
      Real.rpow_eq_pow, Real.rpow_def_of_pos (by norm_num), ← sub_mul, mul_comm (Real.log 2), mul_assoc,
      inv_mul_cancel₀ (Real.log_pos (by norm_num)).ne', mul_one]

/-- A weight of the softmax is a real number that is not negative. -/
theorem exp_real {a : EReal} (ha : a ≠ ⊤) (M : ℝ) : ∃ r : ℝ, 0 ≤ r ∧ Ideal.exp (a - (M : EReal)) = (r : EReal) := by
  induction a using EReal.rec with
  | bot => exact ⟨0, le_rfl, by rw [EReal.bot_sub]; rfl⟩
  | top => exact absurd rfl ha
  | coe x => exact ⟨_, (Real.exp_pos _).le, by rw [← EReal.coe_sub, Ideal.exp_coe]⟩

/-- A finite sum of real numbers, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The sum of a row's softmax weights is a positive real number. -/
theorem exp_sum_real {t : ℕ → EReal} (ht : IsRow t) (M : ℝ) {N : ℕ} (hN : 0 < N) :
    ∃ L : ℝ, 0 < L ∧ ∑ c ∈ Finset.range N, Ideal.exp (t c - (M : EReal)) = (L : EReal) := by
  choose p hp e using fun c => exp_real (ht.ne_top c) M
  refine ⟨∑ c ∈ Finset.range N, p c, ?_, ?_⟩
  · refine lt_of_lt_of_le ?_ (Finset.single_le_sum (f := p) (fun c _ => hp c) (Finset.mem_range.2 hN))
    have h0 := e 0
    have hx : t 0 = ((t 0).toReal : EReal) := (EReal.coe_toReal (ht.ne_top 0) ht.first).symm
    rw [hx, ← EReal.coe_sub, Ideal.exp_coe, EReal.coe_eq_coe_iff] at h0
    rw [← h0]; exact Real.exp_pos _
  · rw [coe_sum]; exact Finset.sum_congr rfl fun c _ => e c

/-- The blended values over the mass, taken over the columns that are not masked and in powers of two, are the values
    weighed by the softmax of the whole row. -/
theorem blend_div_mass {s t : ℕ → EReal} (v : ℕ → EReal) (ht : IsRow t) (hst : ∀ c, s c = t c * (perLn2 : EReal))
    {n N : ℕ} (hn : 0 < n) (hnN : n ≤ N) (hmask : ∀ c, n ≤ c → t c = ⊥) :
    Ideal.div (blend s v n) (mass s n)
      = ∑ c ∈ Finset.range N, v c * Ideal.div (Ideal.exp (t c - top t N)) (∑ c ∈ Finset.range N, Ideal.exp (t c - top t N)) := by
  obtain rfl : s = fun c => t c * (perLn2 : EReal) := funext hst
  obtain ⟨M, hM⟩ := top_real ht (hn.trans_le hnN)
  have hMn : top (fun c => t c * (perLn2 : EReal)) n = (M : EReal) * (perLn2 : EReal) := by
    rw [top_scale, ← top_extend hnN hmask, hM]
  obtain ⟨L, hL, eL⟩ := exp_sum_real ht M (hn.trans_le hnN)
  have hz : ∀ c ∈ Finset.range N, c ∉ Finset.range n → Ideal.exp (t c - (M : EReal)) = 0 := fun c _ hc => by
    rw [hmask c (not_lt.1 fun h => hc (Finset.mem_range.2 h)), EReal.bot_sub]; rfl
  have hsub : Finset.range n ⊆ Finset.range N := Finset.range_subset_range.2 hnN
  have hmass : mass (fun c => t c * (perLn2 : EReal)) n = (L : EReal) := by
    unfold mass
    rw [hMn, ← eL, ← Finset.sum_subset hsub hz]
    exact Finset.sum_congr rfl fun c _ => weight_eq (ht.ne_top c) M
  have hblend : blend (fun c => t c * (perLn2 : EReal)) v n = ∑ c ∈ Finset.range N, Ideal.exp (t c - (M : EReal)) * v c := by
    unfold blend
    rw [hMn, ← Finset.sum_subset hsub fun c h1 h2 => by rw [hz c h1 h2, zero_mul]]
    exact Finset.sum_congr rfl fun c _ => by rw [weight_eq (ht.ne_top c) M]
  rw [hmass, hblend, hM, eL, Ideal.div_coe hL.ne', sum_mul_real _ _ _ (by positivity)]
  refine Finset.sum_congr rfl fun c _ => ?_
  rw [Ideal.div_coe hL.ne', mul_comm (Ideal.exp _) (v c), mul_assoc]

end Cert.Rows

end
-- ==== Proof.Tiles.lean ====
/- What the attention kernel carries, as the sums it stands for: after `n` columns, the largest of a row's first `n`
   scores, the sum of their weights, and the weighted values. -/
module

public import proofs.«01_k».proof.Proof.StepReads
public import proofs.«01_k».proof.Proof.Softmax

@[expose] public section

set_option maxRecDepth 16384

noncomputable section

namespace Cert.KernelIdeal.Values

open Idealize.ShloMosaic Idealize.SL.Sem
open Cert.KernelIdeal.Gen
open Cert.Rows

/-- A sum over a block's columns is a sum over a range. -/
theorem sum_block (f : ℕ → EReal) : ∑ j : Fin 256, f j.val = ∑ j ∈ Finset.range 256, f j := (Finset.sum_range f).symm

/-- A supremum over a block's columns is a supremum over a range. -/
theorem sup_block (f : ℕ → EReal) : (Finset.univ.sup fun j : Fin 256 => f j.val) = (Finset.range 256).sup f := by
  refine le_antisymm (Finset.sup_le fun j _ => Finset.le_sup (f := f) (Finset.mem_range.2 j.isLt)) (Finset.sup_le fun j hj => ?_)
  exact Finset.le_sup (f := fun j : Fin 256 => f j.val) (Finset.mem_univ (⟨j, Finset.mem_range.1 hj⟩ : Fin 256))

/-- The state stands for the first `n` columns of the score rows `S` and the value columns `V`. -/
structure Holds (S : Fin 512 → ℕ → EReal) (V : Fin 128 → ℕ → EReal) (n : ℕ) (st : State Ideal) : Prop where
  m : ∀ i, st.m (ix2 i (0 : Fin 1)) = top (S i) n
  l : ∀ i, st.l (ix2 i (0 : Fin 1)) = mass (S i) n
  o : ∀ i d, st.o (ix2 i d) = blend (S i) (V d) n

variable {S : Fin 512 → ℕ → EReal} {V : Fin 128 → ℕ → EReal}

/-- A block of scores is the columns from `n` on of the rows `S`. -/
def IsScores (S : Fin 512 → ℕ → EReal) (n : ℕ) (s : FVec Ideal S512x256 .f32) : Prop :=
  ∀ (i : Fin 512) (j : Fin 256), s (ix2 i j) = S i (n + j.val)

/-- A block of values is the rows from `n` on of the columns `V`. -/
def IsValues (V : Fin 128 → ℕ → EReal) (n : ℕ) (v : Vec Ideal S1x256x128 .bf16) : Prop :=
  ∀ (j : Fin 256) (d : Fin 128), v (ix3 (0 : Fin 1) j d) = V d (n + j.val)

/-- The largest score of a block. -/
theorem rowMax_scores {n : ℕ} {s : FVec Ideal S512x256 .f32} (hs : IsScores S n s) (i : Fin 512) :
    rowMax s (ix2 i (0 : Fin 1)) = (Finset.range 256).sup fun j => S i (n + j) := by
  rw [rowMax_apply, ← sup_block]
  simp only [hs i]

/-- The sum of a block's weights. -/
theorem rowSum_scores {n : ℕ} {s : FVec Ideal S512x256 .f32} (hs : IsScores S n s) (m : FVec Ideal S512x1 .f32) (i : Fin 512) :
    rowSum (weights m s) (ix2 i (0 : Fin 1)) = ∑ j ∈ Finset.range 256, Ideal.exp2 (S i (n + j) - m (ix2 i (0 : Fin 1))) := by
  rw [rowSum_apply, ← sum_block]
  simp only [weights_apply, hs i]

/-- A block's weighted values. -/
theorem weighed_scores {n : ℕ} {s : FVec Ideal S512x256 .f32} {v : Vec Ideal S1x256x128 .bf16} (hs : IsScores S n s)
    (hv : IsValues V n v) (m : FVec Ideal S512x1 .f32) (i : Fin 512) (d : Fin 128) :
    weighed (weights m s) v (ix2 i d)
      = ∑ j ∈ Finset.range 256, Ideal.exp2 (S i (n + j) - m (ix2 i (0 : Fin 1))) * V d (n + j) := by
  rw [weighed_apply, ← sum_block fun j => Ideal.exp2 (S i (n + j) - m (ix2 i (0 : Fin 1))) * V d (n + j)]
  simp only [weights_apply, hs i, fun j => hv j d]

/-- The first block makes a state of 256 columns. -/
theorem holds_begun {s : FVec Ideal S512x256 .f32} {v : Vec Ideal S1x256x128 .bf16} (hs : IsScores S 0 s) (hv : IsValues V 0 v) :
    Holds S V 256 (begun s v) := by
  have em : (begun s v).m = rowMax s := by dsimp only [begun]
  have el : (begun s v).l = rowSum (weights (rowMax s) s) := by dsimp only [begun]
  have eo : (begun s v).o = weighed (weights (rowMax s) s) v := rfl
  have hm : ∀ i, rowMax s (ix2 i (0 : Fin 1)) = top (S i) 256 := fun i => by
    rw [rowMax_scores hs, top]; simp only [Nat.zero_add]
  constructor
  · intro i
    rw [em, hm]
  · intro i
    rw [el, rowSum_scores hs, hm, mass]; simp only [Nat.zero_add]
  · intro i d
    rw [eo, weighed_scores hs hv, hm, blend]; simp only [Nat.zero_add]

/-- A later block adds 256 columns. -/
theorem holds_next (hS : ∀ i, IsRow (S i)) {n : ℕ} (hn : 0 < n) {st : State Ideal} (h : Holds S V n st)
    {s : FVec Ideal S512x256 .f32} {v : Vec Ideal S1x256x128 .bf16} (hs : IsScores S n s) (hv : IsValues V n v) :
    Holds S V (n + 256) (st.next s v) := by
  have hm : ∀ i, st.top s (ix2 i (0 : Fin 1)) = top (S i) (n + 256) := fun i => by
    rw [top_apply, h.m, rowMax_scores hs, top_add]
  have hc : ∀ i, st.carry s (ix2 i (0 : Fin 1)) = Ideal.exp2 (top (S i) n - top (S i) (n + 256)) := fun i => by
    rw [carry_apply, h.m, hm]
  refine ⟨hm, fun i => ?_, fun i d => ?_⟩
  · rw [next_l_apply, h.l, hc, rowSum_scores hs, hm, mass_add (hS i) hn]
  · rw [next_o_apply, h.o, hc, weighed_scores hs hv, hm, blend_add (hS i) _ hn]

/-- The result of a tile is the weighted values over the sum of weights. -/
theorem holds_done {n : ℕ} {st : State Ideal} (h : Holds S V n st) (i : Fin 512) (d : Fin 128) :
    st.done (ix3 (0 : Fin 1) i d) = Ideal.div (blend (S i) (V d) n) (mass (S i) n) := by
  rw [done_apply, h.o, h.l]

/-- A head's array by natural row numbers; 0 past its end. -/
def rowAt (x : Vec Ideal S1x2048x128 .bf16) (c : ℕ) (d : Fin 128) : EReal :=
  if h : c < 2048 then x (ix3 (0 : Fin 1) ⟨c, h⟩ d) else 0

/-- The score of query `r` against key `c`. -/
def dot (x0 x1 : Vec Ideal S1x2048x128 .bf16) (r c : ℕ) : EReal := ∑ d : Fin 128, rowAt x0 r d * rowAt x1 c d

/-- The score row of query `r`: the keys up to `r` count, later ones are masked. -/
def scoreRow (x0 x1 : Vec Ideal S1x2048x128 .bf16) (r c : ℕ) : EReal := if c ≤ r then dot x0 x1 r c else ⊥

/-- Column `d` of the values. -/
def valueCol (x2 : Vec Ideal S1x2048x128 .bf16) (d : Fin 128) (c : ℕ) : EReal := rowAt x2 c d

variable {x0 x1 x2 : Vec Ideal S1x2048x128 .bf16}

/-- A block of keys or values loaded from row `o`. -/
theorem ld_rowAt (x : Vec Ideal S1x2048x128 .bf16) {o : ℕ} (ho : o + 256 ≤ 2048) (h) (j : Fin 256) (d : Fin 128) :
    View.ld x (Rect.unit (s := S1x2048x128) ![0, o, 0] S1x256x128.size h) (ix3 (0 : Fin 1) j d) = rowAt x (o + j.val) d := by
  have hj : o + j.val < 2048 := by have := j.isLt; omega
  rw [ld_rows_apply x o h j d hj, rowAt, dif_pos hj]

/-- The queries loaded from row `o`. -/
theorem queries_rowAt (x : Vec Ideal S1x2048x128 .bf16) {o : ℕ} (ho : o + 512 ≤ 2048) (h) (i : Fin 512) (d : Fin 128) :
    queries (View.ld x (Rect.unit (s := S1x2048x128) ![0, o, 0] S1x512x128.size h)) (ix2 i d) = rowAt x (o + i.val) d := by
  have hi : o + i.val < 2048 := by have := i.isLt; omega
  rw [queries_apply x o h i d hi, rowAt, dif_pos hi]

/-- A block of values loaded from row `b`. -/
theorem values_block {b : ℕ} (hb : b + 256 ≤ 2048) (h) :
    IsValues (valueCol x2) b (View.ld x2 (Rect.unit (s := S1x2048x128) ![0, b, 0] S1x256x128.size h)) :=
  fun j d => ld_rowAt x2 hb h j d

/-- The scores of the queries from row `a` against the keys from row `b`. -/
theorem scores_block {a b : ℕ} (ha : a + 512 ≤ 2048) (hb : b + 256 ≤ 2048) (hq hk) (i : Fin 512) (j : Fin 256) :
    scores (queries (View.ld x0 (Rect.unit (s := S1x2048x128) ![0, a, 0] S1x512x128.size hq)))
      (View.ld x1 (Rect.unit (s := S1x2048x128) ![0, b, 0] S1x256x128.size hk)) (ix2 i j) = dot x0 x1 (a + i.val) (b + j.val) := by
  rw [scores_apply]
  exact Finset.sum_congr rfl fun d _ => congrArg₂ _ (queries_rowAt x0 ha hq i d) (ld_rowAt x1 hb hk j d)

/-- A block that lies before the tile's first query needs no mask. -/
theorem plain {a b : ℕ} (ha : a + 512 ≤ 2048) (hab : b + 256 ≤ a) (hq hk) :
    IsScores (fun i => scoreRow x0 x1 (a + i.val)) b
      (scores (queries (View.ld x0 (Rect.unit (s := S1x2048x128) ![0, a, 0] S1x512x128.size hq)))
        (View.ld x1 (Rect.unit (s := S1x2048x128) ![0, b, 0] S1x256x128.size hk))) := fun i j => by
  have hi := i.isLt
  have hj := j.isLt
  show _ = scoreRow x0 x1 (a + i.val) (b + j.val)
  rw [scores_block ha (by omega) hq hk i j, scoreRow, if_pos (by omega)]

/-- A block across the tile's queries, masked. -/
theorem causal {a b : ℕ} (ha : a + 512 ≤ 2048) (hb : b + 256 ≤ 2048) (hq hk) :
    IsScores (fun i => scoreRow x0 x1 (a + i.val)) b
      (masked (BitVec.ofNat 32 a) (BitVec.ofNat 32 b)
        (scores (queries (View.ld x0 (Rect.unit (s := S1x2048x128) ![0, a, 0] S1x512x128.size hq)))
          (View.ld x1 (Rect.unit (s := S1x2048x128) ![0, b, 0] S1x256x128.size hk)))) := fun i j => by
  show _ = scoreRow x0 x1 (a + i.val) (b + j.val)
  rw [masked_apply a b (by omega) (by omega), scores_block ha hb hq hk i j, scoreRow]

section
variable (hS : ∀ r, IsRow (scoreRow x0 x1 r))
include hS

/-- The first tile is done with 512 columns. -/
theorem holds_tile0 : Holds (fun i => scoreRow x0 x1 (0 + i.val)) (valueCol x2) 512 (tile0 x0 x1 x2) :=
  holds_next (fun _ => hS _) (n := 256) (by norm_num)
    (holds_begun (causal (by norm_num) (by norm_num) _ _) (values_block (by norm_num) _))
    (causal (by norm_num) (by norm_num) _ _) (values_block (by norm_num) _)

/-- The second tile is done with 1024 columns. -/
theorem holds_tile1 : Holds (fun i => scoreRow x0 x1 (512 + i.val)) (valueCol x2) 1024 (tile1 x0 x1 x2) :=
  holds_next (fun _ => hS _) (n := 768) (by norm_num)
    (holds_next (fun _ => hS _) (n := 512) (by norm_num)
      (holds_next (fun _ => hS _) (n := 256) (by norm_num)
        (holds_begun (plain (by norm_num) (by norm_num) _ _) (values_block (by norm_num) _))
        (plain (by norm_num) (by norm_num) _ _) (values_block (by norm_num) _))
      (causal (by norm_num) (by norm_num) _ _) (values_block (by norm_num) _))
    (causal (by norm_num) (by norm_num) _ _) (values_block (by norm_num) _)

/-- The third tile is done with 1536 columns. -/
theorem holds_tile2 : Holds (fun i => scoreRow x0 x1 (1024 + i.val)) (valueCol x2) 1536 (tile2 x0 x1 x2) :=
  holds_next (fun _ => hS _) (n := 1280) (by norm_num)
    (holds_next (fun _ => hS _) (n := 1024) (by norm_num)
      (holds_next (fun _ => hS _) (n := 768) (by norm_num)
        (holds_next (fun _ => hS _) (n := 512) (by norm_num)
          (holds_next (fun _ => hS _) (n := 256) (by norm_num)
            (holds_begun (plain (by norm_num) (by norm_num) _ _) (values_block (by norm_num) _))
            (plain (by norm_num) (by norm_num) _ _) (values_block (by norm_num) _))
          (plain (by norm_num) (by norm_num) _ _) (values_block (by norm_num) _))
        (plain (by norm_num) (by norm_num) _ _) (values_block (by norm_num) _))
      (causal (by norm_num) (by norm_num) _ _) (values_block (by norm_num) _))
    (causal (by norm_num) (by norm_num) _ _) (values_block (by norm_num) _)

/-- The fourth tile is done with all 2048 columns. -/
theorem holds_tile3 : Holds (fun i => scoreRow x0 x1 (1536 + i.val)) (valueCol x2) 2048 (tile3 x0 x1 x2) :=
  holds_next (fun _ => hS _) (n := 1792) (by norm_num)
    (holds_next (fun _ => hS _) (n := 1536) (by norm_num)
      (holds_next (fun _ => hS _) (n := 1280) (by norm_num)
        (holds_next (fun _ => hS _) (n := 1024) (by norm_num)
          (holds_next (fun _ => hS _) (n := 768) (by norm_num)
            (holds_next (fun _ => hS _) (n := 512) (by norm_num)
              (holds_next (fun _ => hS _) (n := 256) (by norm_num)
                (holds_begun (plain (by norm_num) (by norm_num) _ _) (values_block (by norm_num) _))
                (plain (by norm_num) (by norm_num) _ _) (values_block (by norm_num) _))
              (plain (by norm_num) (by norm_num) _ _) (values_block (by norm_num) _))
            (plain (by norm_num) (by norm_num) _ _) (values_block (by norm_num) _))
          (plain (by norm_num) (by norm_num) _ _) (values_block (by norm_num) _))
        (plain (by norm_num) (by norm_num) _ _) (values_block (by norm_num) _))
      (causal (by norm_num) (by norm_num) _ _) (values_block (by norm_num) _))
    (causal (by norm_num) (by norm_num) _ _) (values_block (by norm_num) _)

end

end Cert.KernelIdeal.Values

end
-- ==== Proof.AttnBlock.lean ====
/- The attention kernel's output block at an index: the quotient of the weighted values by the sum of weights, over the
   columns that the query's tile reads. -/
module

public import proofs.«01_k».proof.Proof.Tiles
public import Idealize.ShloMosaic.Lib.Pipeline.ValueKit

@[expose] public section

set_option maxRecDepth 16384

noncomputable section

namespace Cert.KernelIdeal.Values

open Idealize.ShloMosaic Idealize.SL.Sem
open Cert.KernelIdeal.Gen
open Cert.Rows

/-- The columns that the tile of query `r` reads. -/
def width (r : ℕ) : ℕ := 512 * (r / 512 + 1)

/-- The attention of query `r` at value column `d`. -/
def attnAt (x0 x1 x2 : Vec Ideal S1x2048x128 .bf16) (r : ℕ) (d : Fin 128) : EReal :=
  Ideal.div (blend (scoreRow x0 x1 r) (valueCol x2 d) (width r)) (mass (scoreRow x0 x1 r) (width r))

/-- The attention of a head, as a block. -/
def attnBlock (x0 x1 x2 : Vec Ideal S1x2048x128 .bf16) : Vec Ideal S1x2048x128 .bf16 :=
  fun y => attnAt x0 x1 x2 (y 1).val (y 2)

variable {x0 x1 x2 : Vec Ideal S1x2048x128 .bf16}

/-- A tile's results lie in the output block at the tile's rows. -/
theorem tile_piece {a n : ℕ} {st : State Ideal} (h : Holds (fun i => scoreRow x0 x1 (a + i.val)) (valueCol x2) n st)
    (hn : n = a + 512) (ha : a % 512 = 0) (hh) (x : (Rect.unit (s := S1x2048x128) ![0, a, 0] S1x512x128.size hh).shape.Idx) :
    st.done x = attnBlock x0 x1 x2
      ((Rect.unit (s := S1x2048x128) ![0, a, 0] S1x512x128.size hh).emb x) := by
  have hx : (x : S1x512x128.Idx) = ix3 (0 : Fin 1) (x 1 : Fin 512) (x 2 : Fin 128) := by
    funext b
    match b with
    | ⟨0, _⟩ => exact Subsingleton.elim (α := Fin 1) _ _
    | ⟨1, _⟩ => rfl
    | ⟨2, _⟩ => rfl
  have h1 : (((Rect.unit (s := S1x2048x128) ![0, a, 0] S1x512x128.size hh).emb x) 1).val = a + (x 1 : Fin 512).val :=
    ValueKit.rect_emb_unit_val (s := S1x2048x128) ![0, a, 0] S1x512x128.size hh x 1
  have h2 : (((Rect.unit (s := S1x2048x128) ![0, a, 0] S1x512x128.size hh).emb x) 2) = (x 2 : Fin 128) :=
    Fin.ext ((ValueKit.rect_emb_unit_val (s := S1x2048x128) ![0, a, 0] S1x512x128.size hh x 2).trans (Nat.zero_add _))
  have hw : width (a + (x 1 : Fin 512).val) = n := by
    have hlt : (x 1 : Fin 512).val < 512 := (x 1 : Fin 512).isLt
    have hq : (a + (x 1 : Fin 512).val) / 512 = a / 512 := by
      generalize (x 1 : Fin 512).val = k at hlt ⊢
      omega
    unfold width; rw [hq]; omega
  show st.done x = attnAt x0 x1 x2 (((Rect.unit (s := S1x2048x128) ![0, a, 0] S1x512x128.size hh).emb x) 1).val
    (((Rect.unit (s := S1x2048x128) ![0, a, 0] S1x512x128.size hh).emb x) 2)
  rw [h1, h2]; unfold attnAt; rw [hw]
  exact (congrArg st.done hx).trans (holds_done h _ _)

/-- The attention kernel's output block is the head's attention. -/
theorem out_eq_attn (hS : ∀ r, IsRow (scoreRow x0 x1 r)) :
    out1_3 x0 x1 x2 = attnBlock x0 x1 x2 := by
  funext y
  rw [out_eq_tiles]
  refine View.canon_apply_of_pieces (Val := Elt Ideal) (attnBlock x0 x1 x2) _ ?_ y
    (cover1_3 _ _ _ _ y)
  intro p hp x
  simp only [List.mem_cons, List.not_mem_nil, or_false] at hp
  rcases hp with rfl | rfl | rfl | rfl
  · exact tile_piece (holds_tile3 hS) (by norm_num) (by norm_num) inb_S1x2048x128_S1x512x128_0_1536_0 x
  · exact tile_piece (holds_tile2 hS) (by norm_num) (by norm_num) inb_S1x2048x128_S1x512x128_0_1024_0 x
  · exact tile_piece (holds_tile1 hS) (by norm_num) (by norm_num) inb_S1x2048x128_S1x512x128_0_512_0 x
  · exact tile_piece (holds_tile0 hS) (by norm_num) (by norm_num) inb_S1x2048x128_S1x512x128_0_0_0 x

end Cert.KernelIdeal.Values

end
-- ==== Proof.Attention.lean ====
/- The attention kernel's array: each head of each batch by itself. -/
module

public import proofs.«01_k».proof.Proof.AttnBlock

@[expose] public section

set_option maxRecDepth 16384

noncomputable section

namespace Cert.KernelIdeal.Values

open Idealize.ShloMosaic Idealize.ShloMosaic.TcCoe Idealize.SL.Sem
open Idealize.ShloMosaic.Pipeline (Dat)
open Cert.KernelIdeal.Gen
open Cert.Rows

/-- Column `d` of head `h` among the 2048 columns. -/
def headCol (h : Fin 16) (d : Fin 128) : Fin 2048 := ⟨h.val * 128 + d.val, by have := h.isLt; have := d.isLt; omega⟩

/-- The head that a column belongs to. -/
def colHead (n : Fin 2048) : Fin 16 := ⟨n.val / 128, by have := n.isLt; omega⟩

/-- A column's place in its head. -/
def colIn (n : Fin 2048) : Fin 128 := ⟨n.val % 128, Nat.mod_lt _ (by norm_num)⟩

theorem colHead_headCol (h : Fin 16) (d : Fin 128) : colHead (headCol h d) = h :=
  Fin.ext (by have := h.isLt; have := d.isLt; show (h.val * 128 + d.val) / 128 = h.val; omega)

theorem colIn_headCol (h : Fin 16) (d : Fin 128) : colIn (headCol h d) = d :=
  Fin.ext (by have := h.isLt; have := d.isLt; show (h.val * 128 + d.val) % 128 = d.val; omega)

/-- Head `h` of batch `b`. -/
def headOf (X : Vec Ideal S2x2048x2048 .bf16) (b : Fin 2) (h : Fin 16) : Vec Ideal S1x2048x128 .bf16 :=
  fun y => X (ix3 b (y 1 : Fin 2048) (headCol h (y 2)))

variable (V : (c : Dev nD) → (b : Ref sig .tc) → Buf (Elt Ideal) ((c : Thread nD τ).loc b)) (c : Dev nD)

theorem index1_0 : ∀ t : Fin cfg1.N, win1_0.index t = ![(grid1.coords t 0).val, 0, (grid1.coords t 1).val] := (by decide +kernel : ∀ t : Fin grid1.N, _)
theorem index1_1 : ∀ t : Fin cfg1.N, win1_1.index t = ![(grid1.coords t 0).val, 0, (grid1.coords t 1).val] := (by decide +kernel : ∀ t : Fin grid1.N, _)
theorem index1_2 : ∀ t : Fin cfg1.N, win1_2.index t = ![(grid1.coords t 0).val, 0, (grid1.coords t 1).val] := (by decide +kernel : ∀ t : Fin grid1.N, _)
theorem index1_3 : ∀ t : Fin cfg1.N, win1_3.index t = ![(grid1.coords t 0).val, 0, (grid1.coords t 1).val] := (by decide +kernel : ∀ t : Fin grid1.N, _)

/-- The block of queries at point `t` is a head. -/
theorem block1_0 (t : Fin cfg1.N) : iblk1 V c 0 t = headOf (V c main_v3) (grid1.coords t 0) (grid1.coords t 1) := by
  funext y
  unfold headOf
  blk_simp [iblk1]
  congr 1
  have h0 : (y 0).val = 0 := Nat.lt_one_iff.1 (show (y 0).val < 1 from (y 0).isLt)
  blk_ext [index1_0, headCol, h0]

/-- The block of keys at point `t` is a head. -/
theorem block1_1 (t : Fin cfg1.N) : iblk1 V c 1 t = headOf (V c main_v4) (grid1.coords t 0) (grid1.coords t 1) := by
  funext y
  unfold headOf
  blk_simp [iblk1]
  congr 1
  have h0 : (y 0).val = 0 := Nat.lt_one_iff.1 (show (y 0).val < 1 from (y 0).isLt)
  blk_ext [index1_1, headCol, h0]

/-- The block of values at point `t` is a head. -/
theorem block1_2 (t : Fin cfg1.N) : iblk1 V c 2 t = headOf (V c main_v5) (grid1.coords t 0) (grid1.coords t 1) := by
  funext y
  unfold headOf
  blk_simp [iblk1]
  congr 1
  have h0 : (y 0).val = 0 := Nat.lt_one_iff.1 (show (y 0).val < 1 from (y 0).isLt)
  blk_ext [index1_2, headCol, h0]

/-- The attention of batch `b`, row `r`, column `n`. -/
def attention (q k v : Vec Ideal S2x2048x2048 .bf16) (b : Fin 2) (r n : Fin 2048) : EReal :=
  attnAt (headOf q b (colHead n)) (headOf k b (colHead n)) (headOf v b (colHead n)) r.val (colIn n)

/-- The attention at a head's column is the head's. -/
theorem attention_headCol (q k v : Vec Ideal S2x2048x2048 .bf16) (b : Fin 2) (r : Fin 2048) (h : Fin 16) (d : Fin 128) :
    attention q k v b r (headCol h d) = attnAt (headOf q b h) (headOf k b h) (headOf v b h) r.val d := by
  rw [attention, colHead_headCol, colIn_headCol]

/-- The array of the attention kernel, where every score row is one. -/
theorem attention_array
    (hS : ∀ b h r, IsRow (scoreRow (headOf (V c main_v3) b h) (headOf (V c main_v4) b h) r)) :
    (dat1 V c).arrAt 3 cfg1.N
      = (fun y : S2x2048x2048.Idx => attention (V c main_v3) (V c main_v4) (V c main_v5) (y 0) (y 1) (y 2)) := by
  refine (dat1 V c).arrAt_eq_of_covers 3 _ (by decide +kernel) fun t hf y => ?_
  blk_simp
  rw [after1_3, block1_0, block1_1, block1_2]
  refine (congrFun (out_eq_attn (hS _ _)) y).trans ?_
  unfold attnBlock
  have h0 : (y 0).val = 0 := Nat.lt_one_iff.1 (show (y 0).val < 1 from (y 0).isLt)
  have e0 : (win1_3.blk t).view.emb y 0 = (grid1.coords t 0 : Fin 2) :=
    Fin.ext (by blk_simp [index1_3, h0])
  have e1 : (win1_3.blk t).view.emb y 1 = (y 1 : Fin 2048) := Fin.ext (by blk_simp [index1_3])
  have e2 : (win1_3.blk t).view.emb y 2 = headCol (grid1.coords t 1) (y 2) := Fin.ext (by blk_simp [index1_3, headCol])
  rw [e0, e1, e2]
  exact (attention_headCol _ _ _ _ _ _ _).symm

end Cert.KernelIdeal.Values

end
-- ==== Proof.Projections.lean ====
/- The two kernels around the attention, block by block: the three projections, and the product with the output's
   weights. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Values

open Idealize.ShloMosaic Idealize.ShloMosaic.TcCoe Idealize.SL.Sem
open Idealize.ShloMosaic.Pipeline (Dat)
open Cert.KernelIdeal.Gen

/-- The factor of the queries: one over `ln 2` times one over the root of 128. -/
def queryScale : ℝ := (Real.log 2)⁻¹ * (Real.sqrt 128)⁻¹

/-- The kernel's constant is this factor. -/
theorem queryScale_value : (Named.named κ "qscale" 0x3E0293EE#32 : Ideal .f32) = (queryScale : EReal) :=
  IdealRules.named_const.ideal_named_scalar _ _ _ _ rfl

theorem off_zero : (![0, 0] : Fin 2 → Nat) = fun _ => 0 := funext fun a => by fin_cases a <;> rfl

section
variable (x0 : Vec Ideal S2048x2048 .bf16) (x1 x2 x3 : Vec Ideal S2048x256 .f32)

/-- The block of queries: rows times columns, scaled. -/
theorem out_queries_apply (i : Fin 2048) (j : Fin 256) :
    out0_4 x0 x1 x2 x3 (ix2 i j) = (∑ e : Fin 2048, x0 (ix2 i e) * x1 (ix2 e j)) * (queryScale : EReal) := by
  unfold out0_4
  rw [View.canon_unit_zero off_zero, View.ld_unit_zero off_zero, View.ld_unit_zero off_zero, ← queryScale_value]
  pointwise [k0_pay2, k0_pay1]

/-- The block of keys: rows times columns. -/
theorem out_keys_apply (i : Fin 2048) (j : Fin 256) :
    out0_5 x0 x1 x2 x3 (ix2 i j) = ∑ e : Fin 2048, x0 (ix2 i e) * x2 (ix2 e j) := by
  unfold out0_5
  rw [View.canon_unit_zero off_zero, View.ld_unit_zero off_zero, View.ld_unit_zero off_zero]
  pointwise [k0_pay3, k0_pay1]

/-- The block of values: rows times columns. -/
theorem out_values_apply (i : Fin 2048) (j : Fin 256) :
    out0_6 x0 x1 x2 x3 (ix2 i j) = ∑ e : Fin 2048, x0 (ix2 i e) * x3 (ix2 e j) := by
  unfold out0_6
  rw [View.canon_unit_zero off_zero, View.ld_unit_zero off_zero, View.ld_unit_zero off_zero]
  pointwise [k0_pay4, k0_pay1]

end

/-- The block of results: rows times columns. -/
theorem out_result_apply (x0 : Vec Ideal S2048x2048 .bf16) (x1 : Vec Ideal S2048x512 .f32) (i : Fin 2048) (j : Fin 512) :
    out2_2 x0 x1 (ix2 i j) = ∑ e : Fin 2048, x0 (ix2 i e) * x1 (ix2 e j) := by
  unfold out2_2
  rw [View.canon_unit_zero off_zero, View.ld_unit_zero off_zero, View.ld_unit_zero off_zero]
  pointwise [k2_pay1]

/-- Row `r` of the left factor times column `n` of the right one. -/
def mulAt (X : Vec Ideal S4096x2048 .bf16) (W : Vec Ideal S2048x2048 .f32) (r : Fin 4096) (n : Fin 2048) : EReal :=
  ∑ e : Fin 2048, X (ix2 r e) * W (ix2 e n)

variable (V : (c : Dev nD) → (b : Ref sig .tc) → Buf (Elt Ideal) ((c : Thread nD τ).loc b)) (c : Dev nD)

theorem index0_0 : ∀ t : Fin cfg0.N, win0_0.index t = ![(grid0.coords t 0).val, 0] := (by decide +kernel : ∀ t : Fin grid0.N, _)
theorem index0_1 : ∀ t : Fin cfg0.N, win0_1.index t = ![0, (grid0.coords t 1).val] := (by decide +kernel : ∀ t : Fin grid0.N, _)
theorem index0_2 : ∀ t : Fin cfg0.N, win0_2.index t = ![0, (grid0.coords t 1).val] := (by decide +kernel : ∀ t : Fin grid0.N, _)
theorem index0_3 : ∀ t : Fin cfg0.N, win0_3.index t = ![0, (grid0.coords t 1).val] := (by decide +kernel : ∀ t : Fin grid0.N, _)
theorem index0_4 : ∀ t : Fin cfg0.N, win0_4.index t = ![(grid0.coords t 0).val, (grid0.coords t 1).val] := (by decide +kernel : ∀ t : Fin grid0.N, _)
theorem index0_5 : ∀ t : Fin cfg0.N, win0_5.index t = ![(grid0.coords t 0).val, (grid0.coords t 1).val] := (by decide +kernel : ∀ t : Fin grid0.N, _)
theorem index0_6 : ∀ t : Fin cfg0.N, win0_6.index t = ![(grid0.coords t 0).val, (grid0.coords t 1).val] := (by decide +kernel : ∀ t : Fin grid0.N, _)

/-- The block of window 0 at point `t`: rows of the left factor. -/
theorem block0_0 (t : Fin cfg0.N) (i e : Fin 2048) (r : Fin 4096) (hr : r.val = (grid0.coords t 0).val * 2048 + i.val) :
    iblk0 V c 0 t (ix2 i e) = V c main_v1 (ix2 r e) := by
  blk_simp [iblk0]
  congr 1
  blk_ext [index0_0, hr]

/-- The block of window 1 at point `t`: columns of the queries' weights. -/
theorem block0_1 (t : Fin cfg0.N) (e : Fin 2048) (j : Fin 256) (n : Fin 2048) (hn : n.val = (grid0.coords t 1).val * 256 + j.val) :
    iblk0 V c 1 t (ix2 e j) = V c main_arg1 (ix2 e n) := by
  blk_simp [iblk0]
  congr 1
  blk_ext [index0_1, hn]

/-- The block of window 2 at point `t`: columns of the keys' weights. -/
theorem block0_2 (t : Fin cfg0.N) (e : Fin 2048) (j : Fin 256) (n : Fin 2048) (hn : n.val = (grid0.coords t 1).val * 256 + j.val) :
    iblk0 V c 2 t (ix2 e j) = V c main_arg2 (ix2 e n) := by
  blk_simp [iblk0]
  congr 1
  blk_ext [index0_2, hn]

/-- The block of window 3 at point `t`: columns of the values' weights. -/
theorem block0_3 (t : Fin cfg0.N) (e : Fin 2048) (j : Fin 256) (n : Fin 2048) (hn : n.val = (grid0.coords t 1).val * 256 + j.val) :
    iblk0 V c 3 t (ix2 e j) = V c main_arg3 (ix2 e n) := by
  blk_simp [iblk0]
  congr 1
  blk_ext [index0_3, hn]

/-- The array of queries after the projections. -/
theorem queries_array : (dat0 V c).arrAt 4 cfg0.N
    = (fun y : S4096x2048.Idx => mulAt (V c main_v1) (V c main_arg1) (y 0) (y 1) * (queryScale : EReal)) := by
  refine (dat0 V c).arrAt_eq_of_covers 4 _ (by decide +kernel) fun t hf y => ?_
  blk_simp
  rw [after0_4, show y = ix2 (y 0 : Fin 2048) (y 1 : Fin 256) from ix2_eta (n0 := 2048) (n1 := 256) y |>.symm]
  refine (out_queries_apply _ _ _ _ _ _).trans ?_
  congr 1
  refine Finset.sum_congr rfl fun e _ => congrArg₂ _ (block0_0 V c t _ e _ ?_) (block0_1 V c t e _ _ ?_) <;>
    blk_simp [index0_4] <;> rfl

/-- The array of keys after the projections. -/
theorem keys_array : (dat0 V c).arrAt 5 cfg0.N
    = (fun y : S4096x2048.Idx => mulAt (V c main_v1) (V c main_arg2) (y 0) (y 1)) := by
  refine (dat0 V c).arrAt_eq_of_covers 5 _ (by decide +kernel) fun t hf y => ?_
  blk_simp
  rw [after0_5, show y = ix2 (y 0 : Fin 2048) (y 1 : Fin 256) from ix2_eta (n0 := 2048) (n1 := 256) y |>.symm]
  refine (out_keys_apply _ _ _ _ _ _).trans ?_
  refine Finset.sum_congr rfl fun e _ => congrArg₂ _ (block0_0 V c t _ e _ ?_) (block0_2 V c t e _ _ ?_) <;>
    blk_simp [index0_5] <;> rfl

/-- The array of values after the projections. -/
theorem values_array : (dat0 V c).arrAt 6 cfg0.N
    = (fun y : S4096x2048.Idx => mulAt (V c main_v1) (V c main_arg3) (y 0) (y 1)) := by
  refine (dat0 V c).arrAt_eq_of_covers 6 _ (by decide +kernel) fun t hf y => ?_
  blk_simp
  rw [after0_6, show y = ix2 (y 0 : Fin 2048) (y 1 : Fin 256) from ix2_eta (n0 := 2048) (n1 := 256) y |>.symm]
  refine (out_values_apply _ _ _ _ _ _).trans ?_
  refine Finset.sum_congr rfl fun e _ => congrArg₂ _ (block0_0 V c t _ e _ ?_) (block0_3 V c t e _ _ ?_) <;>
    blk_simp [index0_6] <;> rfl

theorem index2_0 : ∀ t : Fin cfg2.N, win2_0.index t = ![(grid2.coords t 0).val, 0] := (by decide +kernel : ∀ t : Fin grid2.N, _)
theorem index2_1 : ∀ t : Fin cfg2.N, win2_1.index t = ![0, (grid2.coords t 1).val] := (by decide +kernel : ∀ t : Fin grid2.N, _)
theorem index2_2 : ∀ t : Fin cfg2.N, win2_2.index t = ![(grid2.coords t 0).val, (grid2.coords t 1).val] := (by decide +kernel : ∀ t : Fin grid2.N, _)

/-- The block of the last kernel's left factor at point `t`. -/
theorem block2_0 (t : Fin cfg2.N) (i e : Fin 2048) (r : Fin 4096) (hr : r.val = (grid2.coords t 0).val * 2048 + i.val) :
    iblk2 V c 0 t (ix2 i e) = V c main_v7 (ix2 r e) := by
  blk_simp [iblk2]
  congr 1
  blk_ext [index2_0, hr]

/-- The block of the output's weights at point `t`. -/
theorem block2_1 (t : Fin cfg2.N) (e : Fin 2048) (j : Fin 512) (n : Fin 2048) (hn : n.val = (grid2.coords t 1).val * 512 + j.val) :
    iblk2 V c 1 t (ix2 e j) = V c main_arg4 (ix2 e n) := by
  blk_simp [iblk2]
  congr 1
  blk_ext [index2_1, hn]

/-- The array of results after the last kernel. -/
theorem result_array : (dat2 V c).arrAt 2 cfg2.N
    = (fun y : S4096x2048.Idx => mulAt (V c main_v7) (V c main_arg4) (y 0) (y 1)) := by
  refine (dat2 V c).arrAt_eq_of_covers 2 _ (by decide +kernel) fun t hf y => ?_
  blk_simp
  rw [after2_2, show y = ix2 (y 0 : Fin 2048) (y 1 : Fin 512) from ix2_eta (n0 := 2048) (n1 := 512) y |>.symm]
  refine (out_result_apply _ _ _ _).trans ?_
  refine Finset.sum_congr rfl fun e _ => congrArg₂ _ (block2_0 V c t _ e _ ?_) (block2_1 V c t e _ _ ?_) <;>
    blk_simp [index2_2] <;> rfl

end Cert.KernelIdeal.Values

end
-- ==== Proof.KernelValue.lean ====
/- The kernel's result at an index, from the arguments: the host's reshapes put the three kernels' arrays together. -/
module

public import proofs.«01_k».proof.Proof.Attention
public import proofs.«01_k».proof.Proof.Projections

@[expose] public section

set_option maxRecDepth 16384

noncomputable section

namespace Cert.KernelIdeal.Values

open Idealize.ShloMosaic Idealize.ShloMosaic.TcCoe Idealize.SL.Sem
open Idealize.ShloMosaic.Pipeline (Dat)
open Cert.KernelIdeal.Gen
open Cert.Rows

variable (m : (ℓ : Loc nD τ sig) → Buf (Elt Ideal) ℓ) (ρ : Dev nD → PrngReg) (c : Dev nD)

/-- Row `s` of batch `b` among the 4096 rows. -/
def flatRow (b : Fin 2) (s : Fin 2048) : Fin 4096 := ⟨b.val * 2048 + s.val, by have := b.isLt; have := s.isLt; omega⟩

/-- Two batches of 2048 rows laid out as 4096 rows. -/
theorem flatten_apply {e : EltTy} (x : Vec Ideal S2x2048x2048 e) (b : Fin 2) (s n : Fin 2048) :
    shapeCast S4096x2048 x shapeCasts_S2x2048x2048_S4096x2048 (ix2 (flatRow b s) n) = x (ix3 b s n) := by
  pointwise [flatRow]

/-- 4096 rows laid out as two batches of 2048. -/
theorem batches_apply {e : EltTy} (x : Vec Ideal S4096x2048 e) (b : Fin 2) (s n : Fin 2048) :
    shapeCast S2x2048x2048 x shapeCasts_S4096x2048_S2x2048x2048 (ix3 b s n) = x (ix2 (flatRow b s) n) := by
  pointwise [flatRow]

/-- The first kernel's left factor is the input. -/
theorem input_apply (b : Fin 2) (s e : Fin 2048) :
    V1 m ρ c main_v1 (ix2 (flatRow b s) e) = m ((c : Thread nD τ).loc main_arg0) (ix3 b s e) := by
  dsimp only [V1, W1]
  after_results
  exact flatten_apply (m ((c : Thread nD τ).loc main_arg0)) b s e

/-- The queries entering the attention kernel. -/
theorem v3_apply (b : Fin 2) (s n : Fin 2048) :
    V3 m ρ c main_v3 (ix3 b s n) = V2 m ρ c main_v2_0 (ix2 (flatRow b s) n) := by
  dsimp only [V3, W3]
  after_results
  exact batches_apply (V2 m ρ c main_v2_0) b s n

/-- The keys entering the attention kernel. -/
theorem v4_apply (b : Fin 2) (s n : Fin 2048) :
    V3 m ρ c main_v4 (ix3 b s n) = V2 m ρ c main_v2_1 (ix2 (flatRow b s) n) := by
  dsimp only [V3, W3]
  after_results
  exact batches_apply (V2 m ρ c main_v2_1) b s n

/-- The values entering the attention kernel. -/
theorem v5_apply (b : Fin 2) (s n : Fin 2048) :
    V3 m ρ c main_v5 (ix3 b s n) = V2 m ρ c main_v2_2 (ix2 (flatRow b s) n) := by
  dsimp only [V3, W3]
  after_results
  exact batches_apply (V2 m ρ c main_v2_2) b s n

/-- The last kernel's left factor is the attention's array. -/
theorem v7_apply (b : Fin 2) (s n : Fin 2048) :
    V5 m ρ c main_v7 (ix2 (flatRow b s) n) = V4 m ρ c main_v6 (ix3 b s n) := by
  dsimp only [V5, W5]
  after_results
  exact flatten_apply (V4 m ρ c main_v6) b s n

/-- The result is the last kernel's array. -/
theorem v9_apply (b : Fin 2) (s n : Fin 2048) :
    W7 m ρ c (Proc.devRef .tc main_v9) (ix3 b s n) = V6 m ρ c main_v8 (ix2 (flatRow b s) n) := by
  dsimp only [W7]
  after_results
  exact batches_apply (V6 m ρ c main_v8) b s n

/-- Row `(b, s)` of the input times column `n` of weights. -/
def project (x : Vec Ideal S2x2048x2048 .f32) (w : Vec Ideal S2048x2048 .f32) (b : Fin 2) (s n : Fin 2048) : EReal :=
  ∑ e : Fin 2048, x (ix3 b s e) * w (ix2 e n)

/-- The first kernel's products are the input's. -/
theorem mulAt_input (w : Vec Ideal S2048x2048 .f32) (b : Fin 2) (s n : Fin 2048) :
    mulAt (V1 m ρ c main_v1) w (flatRow b s) n = project (m ((c : Thread nD τ).loc main_arg0)) w b s n :=
  Finset.sum_congr rfl fun e _ => congrArg (· * w (ix2 e n)) (input_apply m ρ c b s e)

/-- The queries, scaled. -/
theorem queries_value (b : Fin 2) (s n : Fin 2048) :
    V3 m ρ c main_v3 (ix3 b s n)
      = project (m ((c : Thread nD τ).loc main_arg0)) (m ((c : Thread nD τ).loc main_arg1)) b s n * (queryScale : EReal) := by
  rw [v3_apply]
  refine (congrFun ((W2_arr m ρ c 4).trans (queries_array (V1 m ρ) c)) _).trans ?_
  refine congrArg (· * (queryScale : EReal)) ((mulAt_input m ρ c _ b s n).trans ?_)
  rw [show V1 m ρ c main_arg1 = m ((c : Thread nD τ).loc main_arg1) from W1_args m ρ c main_arg1 (by decide)]

/-- The keys. -/
theorem keys_value (b : Fin 2) (s n : Fin 2048) :
    V3 m ρ c main_v4 (ix3 b s n)
      = project (m ((c : Thread nD τ).loc main_arg0)) (m ((c : Thread nD τ).loc main_arg2)) b s n := by
  rw [v4_apply]
  refine (congrFun ((W2_arr m ρ c 5).trans (keys_array (V1 m ρ) c)) _).trans ?_
  refine (mulAt_input m ρ c _ b s n).trans ?_
  rw [show V1 m ρ c main_arg2 = m ((c : Thread nD τ).loc main_arg2) from W1_args m ρ c main_arg2 (by decide)]

/-- The values. -/
theorem values_value (b : Fin 2) (s n : Fin 2048) :
    V3 m ρ c main_v5 (ix3 b s n)
      = project (m ((c : Thread nD τ).loc main_arg0)) (m ((c : Thread nD τ).loc main_arg3)) b s n := by
  rw [v5_apply]
  refine (congrFun ((W2_arr m ρ c 6).trans (values_array (V1 m ρ) c)) _).trans ?_
  refine (mulAt_input m ρ c _ b s n).trans ?_
  rw [show V1 m ρ c main_arg3 = m ((c : Thread nD τ).loc main_arg3) from W1_args m ρ c main_arg3 (by decide)]

/-- The result at an index: the attention's row times a column of the output's weights. -/
theorem result_value
    (hS : ∀ b h r, IsRow (scoreRow (headOf (V3 m ρ c main_v3) b h) (headOf (V3 m ρ c main_v4) b h) r))
    (b : Fin 2) (s n : Fin 2048) :
    W7 m ρ c (Proc.devRef .tc main_v9) (ix3 b s n)
      = ∑ e : Fin 2048, attention (V3 m ρ c main_v3) (V3 m ρ c main_v4) (V3 m ρ c main_v5) b s e
          * m ((c : Thread nD τ).loc main_arg4) (ix2 e n) := by
  have h : mulAt (V5 m ρ c main_v7) (V5 m ρ c main_arg4) (flatRow b s) n
      = ∑ e : Fin 2048, attention (V3 m ρ c main_v3) (V3 m ρ c main_v4) (V3 m ρ c main_v5) b s e
          * m ((c : Thread nD τ).loc main_arg4) (ix2 e n) := by
    refine Finset.sum_congr rfl fun e _ => congrArg₂ _ ?_ ?_
    · refine (v7_apply m ρ c b s e).trans ?_
      exact congrFun ((W4_arr m ρ c 3).trans (attention_array (V3 m ρ) c hS)) _
    · exact congrFun (W5_args m ρ c main_arg4 (by decide)) _
  rw [v9_apply]
  exact (congrFun ((W6_arr m ρ c 2).trans (result_array (V5 m ρ) c)) _).trans h

end Cert.KernelIdeal.Values

end
-- ==== Proof.RefValue.lean ====
/- The reference's result at an index: plain softmax attention of the projected input, and the last projection. -/
module

public import proofs.«01_k».proof.Proof.KernelValue
public import proofs.«01_k».proof.Proof.Gen.ReferenceIdeal.Run
public import proofs.«01_k».proof.Proof.Gen.ReferenceIdeal.Read
public import proofs.«01_k».proof.Proof.Gen.Pre_finite_scores
public import Idealize.ShloMosaic.Lib.WordCmp

@[expose] public section

set_option maxRecDepth 16384

noncomputable section

namespace Cert.ReferenceIdeal.Values

open Idealize.ShloMosaic Idealize.ShloMosaic.TcCoe Idealize.SL.Sem
open Cert.ReferenceIdeal.Gen Cert.ReferenceIdeal.Read
open Cert.Rows
open Cert.KernelIdeal.Values (project headCol colHead colIn)

/-- The inputs' and the weights' arrays of ideal values. -/
abbrev Input := Vec Ideal S2x2048x2048 .f32
abbrev Weight := Vec Ideal S2048x2048 .f32

variable (x : Input) (Wq Wk Wv Wo : Weight)

/-- The score of row `r` and column `c` of a head: the scaled product of a query and a key, `⊥` past the row. -/
def plainScore (b : Fin 2) (h : Fin 16) (r : Fin 2048) (c : ℕ) : EReal :=
  if hc : c ≤ r.val then
    (∑ d : Fin 128, project x Wq b r (headCol h d) *
      project x Wk b ⟨c, lt_of_le_of_lt hc r.isLt⟩ (headCol h d)) * ((1 / Real.sqrt 128 : ℝ) : EReal)
  else ⊥

/-- Attention written plainly: the softmax of a row of scores, each weight times its value, summed. -/
def plainAttention (b : Fin 2) (r n : Fin 2048) : EReal :=
  ∑ c : Fin 2048, project x Wv b c n *
    Ideal.div (Ideal.exp (plainScore x Wq Wk b (colHead n) r c.val - top (plainScore x Wq Wk b (colHead n) r) 2048))
      (∑ c' : Fin 2048, Ideal.exp (plainScore x Wq Wk b (colHead n) r c'.val - top (plainScore x Wq Wk b (colHead n) r) 2048))

/-- Splitting a column's index into its head and its place there. -/
theorem split_index (b : Fin 2) (s : Fin 2048) (h : Fin 16) (d : Fin 128) :
    idx_main_v1 (ix4 b s h d) = ix3 b s (headCol h d) := by
  have hb := b.isLt
  have hs := s.isLt
  have hh := h.isLt
  have hd := d.isLt
  funext a
  match a with
  | ⟨0, _⟩ => exact Fin.ext (show (((b.val * 2048 + s.val) * 16 + h.val) * 128 + d.val) / 4194304 = b.val by omega)
  | ⟨1, _⟩ => exact Fin.ext (show (((b.val * 2048 + s.val) * 16 + h.val) * 128 + d.val) / 2048 % 2048 = s.val by omega)
  | ⟨2, _⟩ => exact Fin.ext (show (((b.val * 2048 + s.val) * 16 + h.val) * 128 + d.val) % 2048 = h.val * 128 + d.val by omega)

/-- A column of the joined heads is a place in a head. -/
theorem join_index (b : Fin 2) (s n : Fin 2048) :
    idx_main_v26 (ix3 b s n) = ix4 b s (colHead n) (colIn n) := by
  have hb := b.isLt
  have hs := s.isLt
  have hn := n.isLt
  funext a
  match a with
  | ⟨0, _⟩ => exact Fin.ext (show ((b.val * 2048 + s.val) * 2048 + n.val) / 4194304 = b.val by omega)
  | ⟨1, _⟩ => exact Fin.ext (show ((b.val * 2048 + s.val) * 2048 + n.val) / 2048 % 2048 = s.val by omega)
  | ⟨2, _⟩ => exact Fin.ext (show ((b.val * 2048 + s.val) * 2048 + n.val) / 128 % 16 = n.val / 128 by omega)
  | ⟨3, _⟩ => exact Fin.ext (show ((b.val * 2048 + s.val) * 2048 + n.val) % 128 = n.val % 128 by omega)

/-- The product of the input and a weight array is the projection. -/
theorem product_apply (W : Weight) (b : Fin 2) (s n : Fin 2048) :
    val_main_v0 (F := Ideal) x W (ix3 b s n) = project x W b s n := by
  rw [val_main_v0_apply]
  unfold project
  refine Finset.sum_congr rfl fun e _ => ?_
  congr 2
  · funext a
    match a with
    | ⟨0, _⟩ => rfl
    | ⟨1, _⟩ => rfl
    | ⟨2, _⟩ => rfl
  · funext a
    match a with
    | ⟨0, _⟩ => rfl
    | ⟨1, _⟩ => rfl

/-- The queries, keys or values by head. -/
theorem heads_apply (W : Weight) (b : Fin 2) (s : Fin 2048) (h : Fin 16) (d : Fin 128) :
    val_main_v1 (F := Ideal) x W (ix4 b s h d) = project x W b s (headCol h d) := by
  rw [val_main_v1_apply, split_index, product_apply]

/-- The divisor of the scores is the square root of the head's width. -/
theorem divisor_apply (i : S2x16x2048x2048.Idx) :
    val_main_v8 (F := Ideal) i = ((Real.sqrt 128 : ℝ) : EReal) := by
  rw [val_main_v8_apply, val_main_v7_apply, val_main_cst_apply]
  have h : (FloatOps.ofBits .f32 0x43000000#32 : Ideal .f32) = ((128 : ℝ) : EReal) := by
    show Ideal.ofBits .f32 0x43000000#32 = _
    simp [Ideal.ofBits, Ideal.ieee, -EReal.coe_mul]
    norm_num
  rw [h]
  show (if (128 : ℝ) < 0 then (⊥ : EReal) else ((Real.sqrt 128 : ℝ) : EReal)) = _
  rw [if_neg (by norm_num)]

/-- The products of queries and keys. -/
theorem dots_apply (b : Fin 2) (h : Fin 16) (r c : Fin 2048) :
    val_main_v6 (F := Ideal) x Wq Wk (ix4 b h r c)
      = ∑ d : Fin 128, project x Wq b r (headCol h d) * project x Wk b c (headCol h d) := by
  rw [val_main_v6_apply]
  refine Finset.sum_congr rfl fun d _ => ?_
  have hl : lidx_main_v6 (ix4 b h r c) d = ix4 b r h d := by
    funext a
    match a with
    | ⟨0, _⟩ => rfl
    | ⟨1, _⟩ => rfl
    | ⟨2, _⟩ => rfl
    | ⟨3, _⟩ => rfl
  have hr : ridx_main_v6 (ix4 b h r c) d = ix4 b c h d := by
    funext a
    match a with
    | ⟨0, _⟩ => rfl
    | ⟨1, _⟩ => rfl
    | ⟨2, _⟩ => rfl
    | ⟨3, _⟩ => rfl
  rw [hl, hr, heads_apply]
  congr 1
  exact heads_apply x Wk b c h d

/-- The causal mask keeps the columns up to the row's own. -/
theorem causal_apply (r c : Fin 2048) :
    val_main_v11 (F := Ideal) (ix2 r c) = if c.val ≤ r.val then 1#1 else 0#1 := by
  rw [val_main_v11_apply, val_main_call0_v4_apply, val_main_call0_v2_apply, val_main_call0_v0_apply,
    val_main_call0_v1_apply, val_main_call0_v3_apply, val_main_v10_apply, val_main_call0_v5_apply,
    val_main_call0_c_apply, val_main_c_apply, val_main_call0_c_0_apply]
  have hr := r.isLt
  have hc := c.isLt
  have h0 : IntOp.addi (BitVec.ofNat 32 (ix2 r c 0).val) 0#32 = BitVec.ofNat 32 r.val := BitVec.add_zero _
  have hge : IntOp.cmpi .sge (BitVec.ofNat 32 r.val) (BitVec.ofNat 32 c.val) = BitVec.ofBool (decide (c.val ≤ r.val)) :=
    Idealize.ShloMosaic.WordCmp.cmpi_sge_ofNat (by omega) (by omega)
  rw [h0]
  show Scalar.select (IntOp.cmpi .sge (BitVec.ofNat 32 r.val) (BitVec.ofNat 32 c.val)) 1#1 0#1 = _
  rw [hge]
  by_cases h : c.val ≤ r.val <;> simp [h, Scalar.select]

/-- The masked scores. -/
theorem scores_apply (b : Fin 2) (h : Fin 16) (r c : Fin 2048) :
    val_main_v12 (F := Ideal) x Wq Wk (ix4 b h r c) = plainScore x Wq Wk b h r c.val := by
  have hi : idx_main_call1_v1 (ix4 b h r c) = ix2 r c := by
    funext a
    match a with
    | ⟨0, _⟩ => rfl
    | ⟨1, _⟩ => rfl
  have hb : val_main_call1_v2 (F := Ideal) (ix4 b h r c) = (⊥ : EReal) := by
    rw [val_main_call1_v2_apply, val_main_call1_v0_apply, val_main_cst_0_apply]
    exact Cert.KernelIdeal.Values.ofBits_least
  rw [val_main_v12_apply, val_main_call1_v1_apply, hi, causal_apply, hb, val_main_v9_apply, divisor_apply, dots_apply,
    Ideal.hostDivf_def, Ideal.div_coe (Real.sqrt_pos.2 (by norm_num : (0 : ℝ) < 128)).ne']
  unfold plainScore
  by_cases hc : c.val ≤ r.val
  · rw [if_pos hc, dif_pos hc]
    rfl
  · rw [if_neg hc, dif_neg hc]
    rfl

/-- A maximum over the last of four axes. -/
theorem rowMax_apply (v : Vec Ideal S2x16x2048x2048 .f32) (b : Fin 2) (h : Fin 16) (r : Fin 2048) :
    (Host.reduce (FloatOps.maximumf (F := Ideal) (φ := .f32)) v (constant (F := Ideal) S_ .f32 0xFF800000#32) reducesTo_S2x16x2048x2048_S2x16x2048_d3 h_S_ : Vec Ideal S2x16x2048 .f32) (ix3 b h r)
      = Finset.univ.sup fun c : Fin 2048 => v (ix4 b h r c) := by
  pointwise
  rw [Cert.KernelIdeal.Values.ofBits_least]
  exact Cert.KernelIdeal.Values.fold_max_eq_sup _ _

/-- A row's largest value, over its index or over the numbers below its length. -/
theorem sup_eq_top (s : ℕ → EReal) : (Finset.univ.sup fun c : Fin 2048 => s c.val) = top s 2048 := by
  unfold top
  apply le_antisymm
  · exact Finset.sup_le fun c _ => Finset.le_sup (f := s) (Finset.mem_range.2 c.isLt)
  · refine Finset.sup_le fun c hc => ?_
    exact Finset.le_sup (f := fun c : Fin 2048 => s c.val) (Finset.mem_univ (⟨c, Finset.mem_range.1 hc⟩ : Fin 2048))

/-- The row maximum that the softmax subtracts. -/
theorem largest_apply (b : Fin 2) (h : Fin 16) (r c : Fin 2048) :
    val_main_v17 (F := Ideal) x Wq Wk (ix4 b h r c) = top (plainScore x Wq Wk b h r) 2048 := by
  have hi : idx_main_v16 (idx_main_v17 (ix4 b h r c)) = ix3 b h r := by
    funext a
    match a with
    | ⟨0, _⟩ => rfl
    | ⟨1, _⟩ => rfl
    | ⟨2, _⟩ => rfl
  have hb : val_main_v14 (F := Ideal) (ix3 b h r) = (⊥ : EReal) := by
    rw [val_main_v14_apply, val_main_cst_2_apply]
    exact Cert.KernelIdeal.Values.ofBits_least
  have hm : val_main_v13 (F := Ideal) x Wq Wk (ix3 b h r) = top (plainScore x Wq Wk b h r) 2048 := by
    unfold val_main_v13 val_main_cst_1
    refine (rowMax_apply _ b h r).trans ?_
    rw [← sup_eq_top]
    exact congrArg _ (funext fun c' => scores_apply x Wq Wk b h r c')
  rw [val_main_v17_apply, val_main_v16_apply, hi, val_main_v15_apply, hb, hm]
  exact max_eq_right bot_le

/-- A weight before it is divided by the row's sum. -/
theorem weight_apply (b : Fin 2) (h : Fin 16) (r c : Fin 2048) :
    val_main_v19 (F := Ideal) x Wq Wk (ix4 b h r c)
      = Ideal.exp (plainScore x Wq Wk b h r c.val - top (plainScore x Wq Wk b h r) 2048) := by
  rw [val_main_v19_apply, val_main_v18_apply, scores_apply, largest_apply]
  rfl

/-- The sum of a row's weights. -/
theorem total_apply (b : Fin 2) (h : Fin 16) (r c : Fin 2048) :
    val_main_v22 (F := Ideal) x Wq Wk (ix4 b h r c)
      = ∑ c' : Fin 2048, Ideal.exp (plainScore x Wq Wk b h r c'.val - top (plainScore x Wq Wk b h r) 2048) := by
  have hi : idx_main_v21 (idx_main_v22 (ix4 b h r c)) = ix3 b h r := by
    funext a
    match a with
    | ⟨0, _⟩ => rfl
    | ⟨1, _⟩ => rfl
    | ⟨2, _⟩ => rfl
  have hz : val_main_cst_3 (F := Ideal) (Shape.Idx.first h_S_) = (0 : EReal) := by
    rw [val_main_cst_3_apply]
    show Ideal.ofBits .f32 0x00000000#32 = _
    simp [Ideal.ofBits, Ideal.ieee]
  rw [val_main_v22_apply, val_main_v21_apply, hi, val_main_v20_apply, hz]
  refine (zero_add (M := EReal) _).trans (Finset.sum_congr rfl fun c' _ => ?_)
  rw [← weight_apply]
  congr 1
  funext a
  match a with
  | ⟨0, _⟩ => rfl
  | ⟨1, _⟩ => rfl
  | ⟨2, _⟩ => rfl
  | ⟨3, _⟩ => rfl

/-- The heads' results side by side are the attention written plainly. -/
theorem attention_apply (b : Fin 2) (r n : Fin 2048) :
    val_main_v26 (F := Ideal) x Wq Wk Wv (ix3 b r n) = plainAttention x Wq Wk Wv b r n := by
  have hi : idx_main_v25 (ix4 b r (colHead n) (colIn n)) = ix4 b (colHead n) (colIn n) r := by
    funext a
    match a with
    | ⟨0, _⟩ => rfl
    | ⟨1, _⟩ => rfl
    | ⟨2, _⟩ => rfl
    | ⟨3, _⟩ => rfl
  have hn : headCol (colHead n) (colIn n) = n :=
    Fin.ext (show n.val / 128 * 128 + n.val % 128 = n.val by omega)
  rw [val_main_v26_apply, join_index, val_main_v25_apply, hi, val_main_v24_apply]
  unfold plainAttention
  refine Finset.sum_congr rfl fun c _ => ?_
  have hl : lidx_main_v24 (ix4 b (colHead n) (colIn n) r) c = ix4 b c (colHead n) (colIn n) := by
    funext a
    match a with
    | ⟨0, _⟩ => rfl
    | ⟨1, _⟩ => rfl
    | ⟨2, _⟩ => rfl
    | ⟨3, _⟩ => rfl
  have hr : ridx_main_v24 (ix4 b (colHead n) (colIn n) r) c = ix4 b (colHead n) r c := by
    funext a
    match a with
    | ⟨0, _⟩ => rfl
    | ⟨1, _⟩ => rfl
    | ⟨2, _⟩ => rfl
    | ⟨3, _⟩ => rfl
  have hv : val_main_v5 (F := Ideal) x Wv (ix4 b c (colHead n) (colIn n)) = project x Wv b c n :=
    (heads_apply x Wv b c (colHead n) (colIn n)).trans (by rw [hn])
  rw [hl, hr, hv, val_main_v23_apply, weight_apply, total_apply]
  rfl

/-- The reference's result at an index. -/
theorem result_apply (b : Fin 2) (s n : Fin 2048) :
    val_main_v27 (F := Ideal) x Wq Wk Wv Wo (ix3 b s n)
      = ∑ e : Fin 2048, plainAttention x Wq Wk Wv b s e * Wo (ix2 e n) := by
  rw [val_main_v27_apply]
  refine Finset.sum_congr rfl fun e _ => ?_
  rw [← attention_apply]
  congr 2
  · funext a
    match a with
    | ⟨0, _⟩ => rfl
    | ⟨1, _⟩ => rfl
    | ⟨2, _⟩ => rfl
  · funext a
    match a with
    | ⟨0, _⟩ => rfl
    | ⟨1, _⟩ => rfl

end Cert.ReferenceIdeal.Values
-- ==== Proof.Equation.lean ====
/- The kernel's attention and the reference's are equal when the input and the query and key weights are finite. -/
module

public import proofs.«01_k».proof.Proof.RefValue

@[expose] public section

set_option maxRecDepth 16384

noncomputable section

namespace Cert.Equal

open Idealize.ShloMosaic
open Cert.Rows
open Cert.KernelIdeal Cert.KernelIdeal.Values
open Cert.ReferenceIdeal.Values (plainScore plainAttention)

/-- Every element of an array is a real number. -/
def Finite {s : Shape} (x : Vec Ideal s .f32) : Prop := ∀ i, ∃ a : ℝ, x i = (a : EReal)

/-- A sum of products of real numbers is a real number. -/
theorem sum_real {ι : Type} [Fintype ι] (f g : ι → EReal) (hf : ∀ i, ∃ a : ℝ, f i = a) (hg : ∀ i, ∃ a : ℝ, g i = a) :
    ∃ a : ℝ, ∑ i, f i * g i = (a : EReal) := by
  choose p hp using hf
  choose q hq using hg
  refine ⟨∑ i, p i * q i, ?_⟩
  rw [coe_sum]
  exact Finset.sum_congr rfl fun i _ => by rw [hp, hq, EReal.coe_mul]

/-- Of finite arrays the projection is finite. -/
theorem project_real {x : Vec Ideal S2x2048x2048 .f32} {w : Vec Ideal S2048x2048 .f32} (hx : Finite x) (hw : Finite w)
    (b : Fin 2) (s n : Fin 2048) : ∃ a : ℝ, project x w b s n = (a : EReal) :=
  sum_real (fun e : Fin 2048 => (x (ix3 b s e) : EReal)) (fun e => (w (ix2 e n) : EReal)) (fun _ => hx _) (fun _ => hw _)

/-- A row of a head is a row of the array, at the head's columns. -/
theorem rowAt_head (X : Vec Ideal S2x2048x2048 .bf16) (b : Fin 2) (h : Fin 16) (r : Fin 2048) (d : Fin 128) :
    rowAt (headOf X b h) r.val d = X (ix3 b r (headCol h d)) := by
  unfold rowAt
  rw [dif_pos r.isLt]
  rfl

/-- Multiplying the queries by a real factor multiplies the product of real rows by it. -/
theorem scaled_sum {ι : Type} [Fintype ι] (f g : ι → EReal) (hf : ∀ i, ∃ a : ℝ, f i = a) (hg : ∀ i, ∃ a : ℝ, g i = a) (k : ℝ) :
    ∑ i, f i * (k : EReal) * g i = (∑ i, f i * g i) * (k : EReal) := by
  choose p hp using hf
  choose q hq using hg
  have h1 : ∀ i, f i * (k : EReal) * g i = ((p i * q i * k : ℝ) : EReal) := fun i => by
    rw [hp, hq, ← EReal.coe_mul, ← EReal.coe_mul]
    congr 1
    ring
  have h2 : ∀ i, f i * g i = ((p i * q i : ℝ) : EReal) := fun i => by rw [hp, hq, EReal.coe_mul]
  simp only [h1, h2]
  rw [← coe_sum, ← coe_sum, ← EReal.coe_mul, Finset.sum_mul]

variable {x : Vec Ideal S2x2048x2048 .f32} {Wq Wk Wv : Vec Ideal S2048x2048 .f32}
variable {q k v : Vec Ideal S2x2048x2048 .bf16}

/-- The scores written plainly are a row of real numbers, then `⊥`. -/
theorem plain_isRow (hx : Finite x) (hWq : Finite Wq) (hWk : Finite Wk) (b : Fin 2) (h : Fin 16) (r : Fin 2048) :
    IsRow (plainScore x Wq Wk b h r) := by
  have hreal : ∀ c (hc : c ≤ r.val), ∃ a : ℝ, plainScore x Wq Wk b h r c = (a : EReal) := fun c hc => by
    unfold plainScore
    rw [dif_pos hc]
    obtain ⟨a, ha⟩ := sum_real (fun d : Fin 128 => project x Wq b r (headCol h d))
      (fun d => project x Wk b ⟨c, lt_of_le_of_lt hc r.isLt⟩ (headCol h d))
      (fun _ => project_real hx hWq _ _ _) (fun _ => project_real hx hWk _ _ _)
    rw [ha, ← EReal.coe_mul]
    exact ⟨_, rfl⟩
  constructor
  · intro c
    by_cases hc : c ≤ r.val
    · obtain ⟨a, ha⟩ := hreal c hc
      rw [ha]
      exact EReal.coe_ne_top _
    · unfold plainScore
      rw [dif_neg hc]
      exact bot_ne_top
  · obtain ⟨a, ha⟩ := hreal 0 (Nat.zero_le _)
    rw [ha]
    exact EReal.coe_ne_bot _

/-- The kernel's scores are rows too: its queries and keys are real numbers. -/
theorem kernel_isRow (hq : ∀ i, ∃ a : ℝ, q i = (a : EReal)) (hk : ∀ i, ∃ a : ℝ, k i = (a : EReal))
    (b : Fin 2) (h : Fin 16) (r : ℕ) : IsRow (scoreRow (headOf q b h) (headOf k b h) r) := by
  have hrow : ∀ X : Vec Ideal S2x2048x2048 .bf16, (∀ i, ∃ a : ℝ, X i = (a : EReal)) → ∀ (c : ℕ) (d : Fin 128),
      ∃ a : ℝ, rowAt (headOf X b h) c d = (a : EReal) := fun X hX c d => by
    unfold rowAt
    by_cases hc : c < 2048
    · rw [dif_pos hc]
      exact hX _
    · rw [dif_neg hc]
      exact ⟨0, rfl⟩
  have hdot : ∀ c, ∃ a : ℝ, dot (headOf q b h) (headOf k b h) r c = (a : EReal) := fun c =>
    sum_real _ _ (fun d => hrow q hq r d) (fun d => hrow k hk c d)
  constructor
  · intro c
    show (if c ≤ r then dot (headOf q b h) (headOf k b h) r c else ⊥) ≠ ⊤
    obtain ⟨a, ha⟩ := hdot c
    split
    · rw [ha]
      exact EReal.coe_ne_top _
    · exact bot_ne_top
  · show (if 0 ≤ r then dot (headOf q b h) (headOf k b h) r 0 else ⊥) ≠ ⊥
    obtain ⟨a, ha⟩ := hdot 0
    rw [if_pos (Nat.zero_le _), ha]
    exact EReal.coe_ne_bot _

/-- The kernel's scores are the plain ones in units of `log 2`. -/
theorem score_scaled (hx : Finite x) (hWq : Finite Wq) (hWk : Finite Wk)
    (hq : ∀ b s n, q (ix3 b s n) = project x Wq b s n * (queryScale : EReal))
    (hk : ∀ b s n, k (ix3 b s n) = project x Wk b s n) (b : Fin 2) (h : Fin 16) (r : Fin 2048) (c : ℕ) :
    scoreRow (headOf q b h) (headOf k b h) r.val c = plainScore x Wq Wk b h r c * (perLn2 : EReal) := by
  show (if c ≤ r.val then dot (headOf q b h) (headOf k b h) r.val c else ⊥) = _
  unfold plainScore
  by_cases hc : c ≤ r.val
  · rw [if_pos hc, dif_pos hc]
    have hcl : c < 2048 := lt_of_le_of_lt hc r.isLt
    have hd : dot (headOf q b h) (headOf k b h) r.val c
        = ∑ d : Fin 128, project x Wq b r (headCol h d) * (queryScale : EReal) * project x Wk b ⟨c, hcl⟩ (headCol h d) := by
      unfold dot
      refine Finset.sum_congr rfl fun d _ => ?_
      rw [rowAt_head q b h r d, hq]
      exact congrArg _ ((rowAt_head k b h ⟨c, hcl⟩ d).trans (hk _ _ _))
    rw [hd, scaled_sum _ _ (fun _ => project_real hx hWq _ _ _) (fun _ => project_real hx hWk _ _ _), mul_assoc]
    congr 1
    rw [← EReal.coe_mul]
    congr 1
    unfold queryScale perLn2
    rw [one_div, mul_comm]
  · rw [if_neg hc, dif_neg hc, EReal.bot_mul_coe_of_pos perLn2_pos]

/-- The kernel's attention is the one written plainly. -/
theorem attention_eq (hx : Finite x) (hWq : Finite Wq) (hWk : Finite Wk)
    (hq : ∀ b s n, q (ix3 b s n) = project x Wq b s n * (queryScale : EReal))
    (hk : ∀ b s n, k (ix3 b s n) = project x Wk b s n)
    (hv : ∀ b s n, v (ix3 b s n) = project x Wv b s n) (b : Fin 2) (r n : Fin 2048) :
    attention q k v b r n = plainAttention x Wq Wk Wv b r n := by
  have hw : width r.val ≤ 2048 := by have := r.isLt; unfold width; omega
  have hw0 : 0 < width r.val := by unfold width; omega
  have hmask : ∀ c, width r.val ≤ c → plainScore x Wq Wk b (colHead n) r c = ⊥ := fun c hc => by
    unfold plainScore
    rw [dif_neg]
    unfold width at hc
    omega
  have hcol : headCol (colHead n) (colIn n) = n :=
    Fin.ext (show n.val / 128 * 128 + n.val % 128 = n.val by omega)
  unfold attention attnAt plainAttention
  rw [blend_div_mass _ (plain_isRow hx hWq hWk b (colHead n) r) (score_scaled hx hWq hWk hq hk b (colHead n) r) hw0 hw hmask,
    Finset.sum_range, Finset.sum_range]
  refine Finset.sum_congr rfl fun c _ => ?_
  congr 1
  exact (rowAt_head v b (colHead n) c (colIn n)).trans (by rw [hcol, hv])

end Cert.Equal
-- ==== Proof.Algebraic.lean ====
/- The value claim: the kernel and the reference end with the same result. -/
module

public import proofs.«01_k».proof.Defs
public import proofs.«01_k».proof.Proof.KernelRun
public import proofs.«01_k».proof.Proof.Equation
public import Idealize.ShloMosaic.Lib.Claim
public import Idealize.ShloMosaic.Lib.Affine

@[expose] public section

set_option maxRecDepth 16384

noncomputable section

namespace Cert.Equal

open Idealize.ShloMosaic Idealize.ShloMosaic.TcCoe Idealize.SL.Sem
open Cert.KernelIdeal.Values (project attention headOf queryScale)

/-- An extended real whose absolute value is below infinity is a real number. -/
theorem real_of_abs_lt (a : EReal)
    (h : BitVec.ofBool (decide (FloatOps.absf (F := Ideal) (φ := .f32) a < Ideal.ofBits .f32 0x7F800000#32)) = 1#1) :
    ∃ r : ℝ, a = (r : EReal) := by
  have hi : Ideal.ofBits .f32 0x7F800000#32 = (⊤ : EReal) := by simp [Ideal.ofBits, Ideal.ieee]
  rw [hi] at h
  have hlt : max a (-a) < ⊤ := by
    by_contra hn
    have hd : decide (FloatOps.absf (F := Ideal) (φ := .f32) a < (⊤ : EReal)) = false := decide_eq_false hn
    rw [hd] at h
    exact absurd h (by decide)
  obtain ⟨h1, h2⟩ := max_lt_iff.1 hlt
  induction a using EReal.rec with
  | coe r => exact ⟨r, rfl⟩
  | bot => exact absurd h2 (by simp)
  | top => exact absurd h1 (by simp)

/-- The precondition says that the input and the query and key weights are finite. -/
theorem finite_of_pre {x : Vec Ideal Cert.KernelIdeal.S2x2048x2048 .f32} {Wq Wk Wv Wo : Vec Ideal Cert.KernelIdeal.S2048x2048 .f32}
    (h : Cert.Pre_finite_scores.fn (F := Ideal) x Wq Wk Wv Wo = fun _ => 1#1) : Finite x ∧ Finite Wq ∧ Finite Wk := by
  have hs : ∀ (b : Fin 2) (s n : Fin 2048), (∃ r : ℝ, x (ix3 b s n) = (r : EReal)) ∧ (∃ r : ℝ, Wq (ix2 s n) = (r : EReal))
      ∧ (∃ r : ℝ, Wk (ix2 s n) = (r : EReal)) := fun b s n => by
    have hp := congrFun h (ix3 b s n)
    revert hp
    pointwise [Cert.Pre_finite_scores.fn]
    intro hp
    obtain ⟨hp, h3⟩ := IntOp.andi_eq_one.1 hp
    obtain ⟨h1, h2⟩ := IntOp.andi_eq_one.1 hp
    exact ⟨real_of_abs_lt _ h1, real_of_abs_lt _ h2, real_of_abs_lt _ h3⟩
  refine ⟨fun i => ?_, fun i => ?_, fun i => ?_⟩
  · rw [← ix3_eta i]
    exact (hs _ _ _).1
  · rw [← ix2_eta i]
    exact (hs 0 _ _).2.1
  · rw [← ix2_eta i]
    exact (hs 0 _ _).2.2

section Values

open Cert.KernelIdeal Cert.KernelIdeal.Gen

/-- The kernel's result is the reference's function of the arguments. -/
theorem values_eq (m : (ℓ : Loc nD τ sig) → Buf (Elt Ideal) ℓ) (g : Dev nD → PrngReg) (hpre : Cert.Pre_KernelIdeal_finite_scores m) (c : Dev nD) :
    (W7 m g c (Proc.devRef .tc main_v9) : Vec Ideal S2x2048x2048 .f32)
      = Cert.ReferenceIdeal.Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨hx, hWq, hWk⟩ := finite_of_pre (hpre c)
  have hq := Cert.KernelIdeal.Values.queries_value m g c
  have hk := Cert.KernelIdeal.Values.keys_value m g c
  have hv := Cert.KernelIdeal.Values.values_value m g c
  have hS := kernel_isRow (q := V3 m g c main_v3) (k := V3 m g c main_v4)
    (fun i => by
      obtain ⟨a, ha⟩ := project_real hx hWq (i 0) (i 1) (i 2)
      have e := hq (i 0) (i 1) (i 2)
      rw [ha, ← EReal.coe_mul] at e
      exact ⟨_, (congrArg _ (ix3_eta i)).symm.trans e⟩)
    (fun i => by
      obtain ⟨a, ha⟩ := project_real hx hWk (i 0) (i 1) (i 2)
      exact ⟨a, (congrArg _ (ix3_eta i)).symm.trans ((hk (i 0) (i 1) (i 2)).trans ha)⟩)
  have hsum : ∀ b s n, (∑ e : Fin 2048, attention (V3 m g c main_v3) (V3 m g c main_v4) (V3 m g c main_v5) b s e
        * m ((c : Thread nD τ).loc main_arg4) (ix2 e n) : EReal)
      = ∑ e : Fin 2048, Cert.ReferenceIdeal.Values.plainAttention (m ((c : Thread nD τ).loc main_arg0)) (m ((c : Thread nD τ).loc main_arg1))
          (m ((c : Thread nD τ).loc main_arg2)) (m ((c : Thread nD τ).loc main_arg3)) b s e
        * m ((c : Thread nD τ).loc main_arg4) (ix2 e n) := fun b s n =>
    Finset.sum_congr rfl fun e _ => congrArg (· * (m ((c : Thread nD τ).loc main_arg4) (ix2 e n) : EReal)) (attention_eq hx hWq hWk hq hk hv b s e)
  funext i
  rw [← ix3_eta i]
  exact (Cert.KernelIdeal.Values.result_value m g c hS (i 0) (i 1) (i 2)).trans
    ((hsum (i 0) (i 1) (i 2)).trans (Cert.ReferenceIdeal.Values.result_apply _ _ _ _ _ (i 0) (i 1) (i 2)).symm)

end Values

/-- The kernel and the reference run from equal arguments to equal results, the arguments unchanged. -/
theorem algebraic : Cert.algebraic_KernelIdeal_ReferenceIdeal_pre_finite_scores := by
  intro m g m' g' hpre hagree
  refine ⟨fun c => Cert.KernelIdeal.Gen.W7 m g c (Proc.devRef .tc Cert.KernelIdeal.main_v9), Cert.KernelIdeal.Values.run m g, ?_⟩
  refine θ_run_mono (Cert.ReferenceIdeal.Value.run m' g') fun r hr c => ⟨(hr c).1.trans ?_, (hr c).2⟩
  obtain ⟨h0, h1, h2, h3, h4⟩ := hagree c
  rw [Cert.ReferenceIdeal.Read.val_main_v27_eq, h0, h1, h2, h3, h4]
  exact (values_eq m g hpre c).symm

end Cert.Equal
-- ==== Proof.lean ====
/- Causal attention with its projections: the assembly of `Cert.Claim` from the modules under `Proof/`. -/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_scores.Gen.facts,
    kernel_frame, ideal_frame, fun m g _ => ideal_frame m g trivial, reference_frame, fun m g _ => reference_frame m g trivial,
    preserves, Cert.Equal.algebraic⟩

end Cert.Proof

end
